-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨5, ![1, 1, 1, 2048, 1024]⟩ ⟨5, ![2, 2, 4, 2048, 1024]⟩ (Layout.meshBlock [2, 2, 4] ![[0], [1], [2], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1x1x2048x1024 : Shape := ⟨5, ![1, 1, 1, 2048, 1024]⟩
abbrev S2048x1024 : Shape := ⟨2, ![2048, 1024]⟩
abbrev S1152x1024 : Shape := ⟨2, ![1152, 1024]⟩
abbrev S96x1024 : Shape := ⟨2, ![96, 1024]⟩
abbrev S288x1024 : Shape := ⟨2, ![288, 1024]⟩
abbrev S384x1024 : Shape := ⟨2, ![384, 1024]⟩
abbrev S2x2x4x3 : Shape := ⟨4, ![2, 2, 4, 3]⟩
abbrev S2x2x2x2 : Shape := ⟨4, ![2, 2, 2, 2]⟩
abbrev S_ : Shape := ⟨0, ![]⟩
abbrev S1x1x1x1 : Shape := ⟨4, ![1, 1, 1, 1]⟩
abbrev S128x1024 : Shape := ⟨2, ![128, 1024]⟩
abbrev S32x1024 : Shape := ⟨2, ![32, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1x1x1x2048x1024, .bf16⟩
  | .hbm, ⟨1, _⟩ => ⟨S2048x1024, .bf16⟩
  | .hbm, ⟨2, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1152x1024, .bf16⟩
  | .local _ .vmem, ⟨3, _⟩ => ⟨S96x1024, .bf16⟩
  | .local _ .vmem, ⟨4, _⟩ => ⟨S288x1024, .bf16⟩
  | .local _ .vmem, ⟨5, _⟩ => ⟨S384x1024, .bf16⟩
  | _, _ => ⟨S1x1x1x2048x1024, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 130 → Bool
  | ⟨i, _⟩ => dmaSemScopedAt i

abbrev sig : RefSig :=
  (ofTc nBuf bufTy 1 130 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev main_v2 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_33 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v39 : BitVec 32 := Scalar.subi c1_i32_17 v2
  let c8_i32_32 : BitVec 32 := 8#32
  let v58 : BitVec 32 := Scalar.muli v39 c8_i32_32
  let v59 : BitVec 32 := Scalar.addi c0_i32_33 v58
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_34 : BitVec 32 := 4#32
  let v60 : BitVec 32 := Scalar.muli v5 c4_i32_34
  let v61 : BitVec 32 := Scalar.addi v59 v60
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_35 : BitVec 32 := 1#32
  let v62 : BitVec 32 := Scalar.muli v8 c1_i32_35
  let v63 : BitVec 32 := Scalar.addi v61 v62
  v63.toNat
def k0_dev2 (d0 : Dev nD) : Nat :=
  let c0_i32_38 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_37 : BitVec 32 := 8#32
  let v64 : BitVec 32 := Scalar.muli v2 c8_i32_37
  let v65 : BitVec 32 := Scalar.addi c0_i32_38 v64
  let c1_i32_18 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v40 : BitVec 32 := Scalar.subi c1_i32_18 v5
  let c4_i32_39 : BitVec 32 := 4#32
  let v66 : BitVec 32 := Scalar.muli v40 c4_i32_39
  let v67 : BitVec 32 := Scalar.addi v65 v66
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_40 : BitVec 32 := 1#32
  let v68 : BitVec 32 := Scalar.muli v8 c1_i32_40
  let v69 : BitVec 32 := Scalar.addi v67 v68
  v69.toNat
def k0_dev3 (d0 : Dev nD) : Nat :=
  let c0_i32_43 : BitVec 32 := 0#32
  let c1_i32_19 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v41 : BitVec 32 := Scalar.subi c1_i32_19 v2
  let c8_i32_42 : BitVec 32 := 8#32
  let v70 : BitVec 32 := Scalar.muli v41 c8_i32_42
  let v71 : BitVec 32 := Scalar.addi c0_i32_43 v70
  let c1_i32_20 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v42 : BitVec 32 := Scalar.subi c1_i32_20 v5
  let c4_i32_44 : BitVec 32 := 4#32
  let v72 : BitVec 32 := Scalar.muli v42 c4_i32_44
  let v73 : BitVec 32 := Scalar.addi v71 v72
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v74 : BitVec 32 := Scalar.muli v8 c1_i32_45
  let v75 : BitVec 32 := Scalar.addi v73 v74
  v75.toNat
def k0_dev4 (d0 : Dev nD) : Nat :=
  let c0_i32_48 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_47 : BitVec 32 := 8#32
  let v76 : BitVec 32 := Scalar.muli v2 c8_i32_47
  let v77 : BitVec 32 := Scalar.addi c0_i32_48 v76
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_49 : BitVec 32 := 4#32
  let v78 : BitVec 32 := Scalar.muli v5 c4_i32_49
  let v79 : BitVec 32 := Scalar.addi v77 v78
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_29 : BitVec 32 := 1#32
  let v55 : BitVec 32 := Scalar.xori v8 c1_i32_29
  let c1_i32_50 : BitVec 32 := 1#32
  let v80 : BitVec 32 := Scalar.muli v55 c1_i32_50
  let v81 : BitVec 32 := Scalar.addi v79 v80
  v81.toNat
def k0_dev5 (d0 : Dev nD) : Nat :=
  let c0_i32_53 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_52 : BitVec 32 := 8#32
  let v82 : BitVec 32 := Scalar.muli v2 c8_i32_52
  let v83 : BitVec 32 := Scalar.addi c0_i32_53 v82
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_54 : BitVec 32 := 4#32
  let v84 : BitVec 32 := Scalar.muli v5 c4_i32_54
  let v85 : BitVec 32 := Scalar.addi v83 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_30 : BitVec 32 := 2#32
  let v56 : BitVec 32 := Scalar.xori v8 c2_i32_30
  let c1_i32_55 : BitVec 32 := 1#32
  let v86 : BitVec 32 := Scalar.muli v56 c1_i32_55
  let v87 : BitVec 32 := Scalar.addi v85 v86
  v87.toNat
def k0_off1 (d0 : Dev nD) (c0_i32_64 : BitVec 32) : Fin 2 → Nat :=
  let c1_i32_56 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v88 : BitVec 32 := Scalar.subi c1_i32_56 v18
  let c192_i32 : BitVec 32 := 192#32
  let v89 : BitVec 32 := Scalar.muli v88 c192_i32
  let c1_i32_60 : BitVec 32 := 1#32
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let v96 : BitVec 32 := Scalar.subi c1_i32_60 v35
  let c96_i32_61 : BitVec 32 := 96#32
  let v97 : BitVec 32 := Scalar.muli v96 c96_i32_61
  let v98 : BitVec 32 := Scalar.addi v89 v97
  let v104 : BitVec 32 := Scalar.addi c0_i32_64 v98
  let c0_i32_77 : BitVec 32 := 0#32
  ![v104.toNat, 0]
def k0_off2 (d0 : Dev nD) : Fin 2 → Nat :=
  let c1_i32_22 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_22 v2
  let c2_i32_23 : BitVec 32 := 2#32
  let v46 : BitVec 32 := Scalar.muli v45 c2_i32_23
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v47 : BitVec 32 := Scalar.addi v46 v5
  let c384_i32_63 : BitVec 32 := 384#32
  let v102 : BitVec 32 := Scalar.muli v47 c384_i32_63
  let c1_i32_56 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v88 : BitVec 32 := Scalar.subi c1_i32_56 v18
  let c192_i32 : BitVec 32 := 192#32
  let v89 : BitVec 32 := Scalar.muli v88 c192_i32
  let c1_i32_60 : BitVec 32 := 1#32
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let v96 : BitVec 32 := Scalar.subi c1_i32_60 v35
  let c96_i32_61 : BitVec 32 := 96#32
  let v97 : BitVec 32 := Scalar.muli v96 c96_i32_61
  let v98 : BitVec 32 := Scalar.addi v89 v97
  let v103 : BitVec 32 := Scalar.addi v102 v98
  let c0_i32_78 : BitVec 32 := 0#32
  ![v103.toNat, 0]
def k0_dev6 (d0 : Dev nD) : Nat :=
  let c0_i32_74 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v39 : BitVec 32 := Scalar.subi c1_i32_17 v2
  let c8_i32_73 : BitVec 32 := 8#32
  let v105 : BitVec 32 := Scalar.muli v39 c8_i32_73
  let v106 : BitVec 32 := Scalar.addi c0_i32_74 v105
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_75 : BitVec 32 := 4#32
  let v107 : BitVec 32 := Scalar.muli v5 c4_i32_75
  let v108 : BitVec 32 := Scalar.addi v106 v107
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_76 : BitVec 32 := 1#32
  let v109 : BitVec 32 := Scalar.muli v8 c1_i32_76
  let v110 : BitVec 32 := Scalar.addi v108 v109
  v110.toNat
def k0_off3 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_24 : BitVec 32 := 2#32
  let v48 : BitVec 32 := Scalar.muli v2 c2_i32_24
  let c1_i32_25 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v49 : BitVec 32 := Scalar.subi c1_i32_25 v5
  let v50 : BitVec 32 := Scalar.addi v48 v49
  let c384_i32_79 : BitVec 32 := 384#32
  let v117 : BitVec 32 := Scalar.muli v50 c384_i32_79
  let c1_i32_56 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v88 : BitVec 32 := Scalar.subi c1_i32_56 v18
  let c192_i32 : BitVec 32 := 192#32
  let v89 : BitVec 32 := Scalar.muli v88 c192_i32
  let c1_i32_60 : BitVec 32 := 1#32
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let v96 : BitVec 32 := Scalar.subi c1_i32_60 v35
  let c96_i32_61 : BitVec 32 := 96#32
  let v97 : BitVec 32 := Scalar.muli v96 c96_i32_61
  let v98 : BitVec 32 := Scalar.addi v89 v97
  let v118 : BitVec 32 := Scalar.addi v117 v98
  let c0_i32_94 : BitVec 32 := 0#32
  ![v118.toNat, 0]
def k0_dev7 (d0 : Dev nD) : Nat :=
  let c0_i32_90 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_89 : BitVec 32 := 8#32
  let v120 : BitVec 32 := Scalar.muli v2 c8_i32_89
  let v121 : BitVec 32 := Scalar.addi c0_i32_90 v120
  let c1_i32_18 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v40 : BitVec 32 := Scalar.subi c1_i32_18 v5
  let c4_i32_91 : BitVec 32 := 4#32
  let v122 : BitVec 32 := Scalar.muli v40 c4_i32_91
  let v123 : BitVec 32 := Scalar.addi v121 v122
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_92 : BitVec 32 := 1#32
  let v124 : BitVec 32 := Scalar.muli v8 c1_i32_92
  let v125 : BitVec 32 := Scalar.addi v123 v124
  v125.toNat
def k0_off4 (d0 : Dev nD) : Fin 2 → Nat :=
  let c1_i32_26 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v51 : BitVec 32 := Scalar.subi c1_i32_26 v2
  let c2_i32_27 : BitVec 32 := 2#32
  let v52 : BitVec 32 := Scalar.muli v51 c2_i32_27
  let c1_i32_28 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v53 : BitVec 32 := Scalar.subi c1_i32_28 v5
  let v54 : BitVec 32 := Scalar.addi v52 v53
  let c384_i32_95 : BitVec 32 := 384#32
  let v132 : BitVec 32 := Scalar.muli v54 c384_i32_95
  let c1_i32_56 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v88 : BitVec 32 := Scalar.subi c1_i32_56 v18
  let c192_i32 : BitVec 32 := 192#32
  let v89 : BitVec 32 := Scalar.muli v88 c192_i32
  let c1_i32_60 : BitVec 32 := 1#32
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let v96 : BitVec 32 := Scalar.subi c1_i32_60 v35
  let c96_i32_61 : BitVec 32 := 96#32
  let v97 : BitVec 32 := Scalar.muli v96 c96_i32_61
  let v98 : BitVec 32 := Scalar.addi v89 v97
  let v133 : BitVec 32 := Scalar.addi v132 v98
  let c0_i32_109 : BitVec 32 := 0#32
  ![v133.toNat, 0]
def k0_dev8 (d0 : Dev nD) : Nat :=
  let c0_i32_105 : BitVec 32 := 0#32
  let c1_i32_19 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v41 : BitVec 32 := Scalar.subi c1_i32_19 v2
  let c8_i32_104 : BitVec 32 := 8#32
  let v135 : BitVec 32 := Scalar.muli v41 c8_i32_104
  let v136 : BitVec 32 := Scalar.addi c0_i32_105 v135
  let c1_i32_20 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v42 : BitVec 32 := Scalar.subi c1_i32_20 v5
  let c4_i32_106 : BitVec 32 := 4#32
  let v137 : BitVec 32 := Scalar.muli v42 c4_i32_106
  let v138 : BitVec 32 := Scalar.addi v136 v137
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_107 : BitVec 32 := 1#32
  let v139 : BitVec 32 := Scalar.muli v8 c1_i32_107
  let v140 : BitVec 32 := Scalar.addi v138 v139
  v140.toNat
def k0_off5 (d0 : Dev nD) : Fin 2 → Nat :=
  let c1_i32_111 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let v150 : BitVec 32 := Scalar.subi c1_i32_111 v35
  let c128_i32 : BitVec 32 := 128#32
  let v151 : BitVec 32 := Scalar.muli v150 c128_i32
  let c0_i32_125 : BitVec 32 := 0#32
  ![v151.toNat, 0]
def k0_off6 (d0 : Dev nD) : Fin 2 → Nat :=
  let c1536_i32 : BitVec 32 := 1536#32
  let c1_i32_110 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v147 : BitVec 32 := Scalar.subi c1_i32_110 v18
  let c256_i32 : BitVec 32 := 256#32
  let v148 : BitVec 32 := Scalar.muli v147 c256_i32
  let v149 : BitVec 32 := Scalar.addi c1536_i32 v148
  let c1_i32_111 : BitVec 32 := 1#32
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let v150 : BitVec 32 := Scalar.subi c1_i32_111 v35
  let c128_i32 : BitVec 32 := 128#32
  let v151 : BitVec 32 := Scalar.muli v150 c128_i32
  let v153 : BitVec 32 := Scalar.addi v149 v151
  let c0_i32_126 : BitVec 32 := 0#32
  ![v153.toNat, 0]
def k0_dev9 (d0 : Dev nD) : Nat :=
  let c0_i32_122 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_121 : BitVec 32 := 8#32
  let v154 : BitVec 32 := Scalar.muli v2 c8_i32_121
  let v155 : BitVec 32 := Scalar.addi c0_i32_122 v154
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_123 : BitVec 32 := 4#32
  let v156 : BitVec 32 := Scalar.muli v5 c4_i32_123
  let v157 : BitVec 32 := Scalar.addi v155 v156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_29 : BitVec 32 := 1#32
  let v55 : BitVec 32 := Scalar.xori v8 c1_i32_29
  let c1_i32_124 : BitVec 32 := 1#32
  let v158 : BitVec 32 := Scalar.muli v55 c1_i32_124
  let v159 : BitVec 32 := Scalar.addi v157 v158
  v159.toNat
def k0_off7 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let c128_i32_112 : BitVec 32 := 128#32
  let v152 : BitVec 32 := Scalar.muli v35 c128_i32_112
  let c0_i32_139 : BitVec 32 := 0#32
  ![v152.toNat, 0]
def k0_off8 (d0 : Dev nD) : Fin 2 → Nat :=
  let c1536_i32 : BitVec 32 := 1536#32
  let c1_i32_110 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v147 : BitVec 32 := Scalar.subi c1_i32_110 v18
  let c256_i32 : BitVec 32 := 256#32
  let v148 : BitVec 32 := Scalar.muli v147 c256_i32
  let v149 : BitVec 32 := Scalar.addi c1536_i32 v148
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let c128_i32_112 : BitVec 32 := 128#32
  let v152 : BitVec 32 := Scalar.muli v35 c128_i32_112
  let v166 : BitVec 32 := Scalar.addi v149 v152
  let c0_i32_140 : BitVec 32 := 0#32
  ![v166.toNat, 0]
def k0_dev10 (d0 : Dev nD) : Nat :=
  let c0_i32_136 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_135 : BitVec 32 := 8#32
  let v167 : BitVec 32 := Scalar.muli v2 c8_i32_135
  let v168 : BitVec 32 := Scalar.addi c0_i32_136 v167
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_137 : BitVec 32 := 4#32
  let v169 : BitVec 32 := Scalar.muli v5 c4_i32_137
  let v170 : BitVec 32 := Scalar.addi v168 v169
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_29 : BitVec 32 := 1#32
  let v55 : BitVec 32 := Scalar.xori v8 c1_i32_29
  let c1_i32_138 : BitVec 32 := 1#32
  let v171 : BitVec 32 := Scalar.muli v55 c1_i32_138
  let v172 : BitVec 32 := Scalar.addi v170 v171
  v172.toNat
def k0_off9 (d0 : Dev nD) (c0_i32_144 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c192_i32_57 : BitVec 32 := 192#32
  let v90 : BitVec 32 := Scalar.muli v18 c192_i32_57
  let c1_i32_58 : BitVec 32 := 1#32
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let v91 : BitVec 32 := Scalar.subi c1_i32_58 v35
  let c96_i32 : BitVec 32 := 96#32
  let v92 : BitVec 32 := Scalar.muli v91 c96_i32
  let v93 : BitVec 32 := Scalar.addi v90 v92
  let v183 : BitVec 32 := Scalar.addi c0_i32_144 v93
  let c0_i32_157 : BitVec 32 := 0#32
  ![v183.toNat, 0]
def k0_off10 (d0 : Dev nD) : Fin 2 → Nat :=
  let c1_i32_22 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_22 v2
  let c2_i32_23 : BitVec 32 := 2#32
  let v46 : BitVec 32 := Scalar.muli v45 c2_i32_23
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v47 : BitVec 32 := Scalar.addi v46 v5
  let c384_i32_143 : BitVec 32 := 384#32
  let v181 : BitVec 32 := Scalar.muli v47 c384_i32_143
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c192_i32_57 : BitVec 32 := 192#32
  let v90 : BitVec 32 := Scalar.muli v18 c192_i32_57
  let c1_i32_58 : BitVec 32 := 1#32
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let v91 : BitVec 32 := Scalar.subi c1_i32_58 v35
  let c96_i32 : BitVec 32 := 96#32
  let v92 : BitVec 32 := Scalar.muli v91 c96_i32
  let v93 : BitVec 32 := Scalar.addi v90 v92
  let v182 : BitVec 32 := Scalar.addi v181 v93
  let c0_i32_158 : BitVec 32 := 0#32
  ![v182.toNat, 0]
def k0_dev11 (d0 : Dev nD) : Nat :=
  let c0_i32_154 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v39 : BitVec 32 := Scalar.subi c1_i32_17 v2
  let c8_i32_153 : BitVec 32 := 8#32
  let v184 : BitVec 32 := Scalar.muli v39 c8_i32_153
  let v185 : BitVec 32 := Scalar.addi c0_i32_154 v184
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_155 : BitVec 32 := 4#32
  let v186 : BitVec 32 := Scalar.muli v5 c4_i32_155
  let v187 : BitVec 32 := Scalar.addi v185 v186
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_156 : BitVec 32 := 1#32
  let v188 : BitVec 32 := Scalar.muli v8 c1_i32_156
  let v189 : BitVec 32 := Scalar.addi v187 v188
  v189.toNat
def k0_off11 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_24 : BitVec 32 := 2#32
  let v48 : BitVec 32 := Scalar.muli v2 c2_i32_24
  let c1_i32_25 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v49 : BitVec 32 := Scalar.subi c1_i32_25 v5
  let v50 : BitVec 32 := Scalar.addi v48 v49
  let c384_i32_159 : BitVec 32 := 384#32
  let v196 : BitVec 32 := Scalar.muli v50 c384_i32_159
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c192_i32_57 : BitVec 32 := 192#32
  let v90 : BitVec 32 := Scalar.muli v18 c192_i32_57
  let c1_i32_58 : BitVec 32 := 1#32
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let v91 : BitVec 32 := Scalar.subi c1_i32_58 v35
  let c96_i32 : BitVec 32 := 96#32
  let v92 : BitVec 32 := Scalar.muli v91 c96_i32
  let v93 : BitVec 32 := Scalar.addi v90 v92
  let v197 : BitVec 32 := Scalar.addi v196 v93
  let c0_i32_174 : BitVec 32 := 0#32
  ![v197.toNat, 0]
def k0_dev12 (d0 : Dev nD) : Nat :=
  let c0_i32_170 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_169 : BitVec 32 := 8#32
  let v199 : BitVec 32 := Scalar.muli v2 c8_i32_169
  let v200 : BitVec 32 := Scalar.addi c0_i32_170 v199
  let c1_i32_18 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v40 : BitVec 32 := Scalar.subi c1_i32_18 v5
  let c4_i32_171 : BitVec 32 := 4#32
  let v201 : BitVec 32 := Scalar.muli v40 c4_i32_171
  let v202 : BitVec 32 := Scalar.addi v200 v201
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_172 : BitVec 32 := 1#32
  let v203 : BitVec 32 := Scalar.muli v8 c1_i32_172
  let v204 : BitVec 32 := Scalar.addi v202 v203
  v204.toNat
def k0_off12 (d0 : Dev nD) : Fin 2 → Nat :=
  let c1_i32_26 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v51 : BitVec 32 := Scalar.subi c1_i32_26 v2
  let c2_i32_27 : BitVec 32 := 2#32
  let v52 : BitVec 32 := Scalar.muli v51 c2_i32_27
  let c1_i32_28 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v53 : BitVec 32 := Scalar.subi c1_i32_28 v5
  let v54 : BitVec 32 := Scalar.addi v52 v53
  let c384_i32_175 : BitVec 32 := 384#32
  let v211 : BitVec 32 := Scalar.muli v54 c384_i32_175
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c192_i32_57 : BitVec 32 := 192#32
  let v90 : BitVec 32 := Scalar.muli v18 c192_i32_57
  let c1_i32_58 : BitVec 32 := 1#32
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let v91 : BitVec 32 := Scalar.subi c1_i32_58 v35
  let c96_i32 : BitVec 32 := 96#32
  let v92 : BitVec 32 := Scalar.muli v91 c96_i32
  let v93 : BitVec 32 := Scalar.addi v90 v92
  let v212 : BitVec 32 := Scalar.addi v211 v93
  let c0_i32_190 : BitVec 32 := 0#32
  ![v212.toNat, 0]
def k0_dev13 (d0 : Dev nD) : Nat :=
  let c0_i32_186 : BitVec 32 := 0#32
  let c1_i32_19 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v41 : BitVec 32 := Scalar.subi c1_i32_19 v2
  let c8_i32_185 : BitVec 32 := 8#32
  let v214 : BitVec 32 := Scalar.muli v41 c8_i32_185
  let v215 : BitVec 32 := Scalar.addi c0_i32_186 v214
  let c1_i32_20 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v42 : BitVec 32 := Scalar.subi c1_i32_20 v5
  let c4_i32_187 : BitVec 32 := 4#32
  let v216 : BitVec 32 := Scalar.muli v42 c4_i32_187
  let v217 : BitVec 32 := Scalar.addi v215 v216
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_188 : BitVec 32 := 1#32
  let v218 : BitVec 32 := Scalar.muli v8 c1_i32_188
  let v219 : BitVec 32 := Scalar.addi v217 v218
  v219.toNat
def k0_off13 (d0 : Dev nD) (c0_i32_192 : BitVec 32) : Fin 2 → Nat :=
  let c1_i32_56 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v88 : BitVec 32 := Scalar.subi c1_i32_56 v18
  let c192_i32 : BitVec 32 := 192#32
  let v89 : BitVec 32 := Scalar.muli v88 c192_i32
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let c96_i32_62 : BitVec 32 := 96#32
  let v99 : BitVec 32 := Scalar.muli v35 c96_i32_62
  let v100 : BitVec 32 := Scalar.addi v89 v99
  let v228 : BitVec 32 := Scalar.addi c0_i32_192 v100
  let c0_i32_205 : BitVec 32 := 0#32
  ![v228.toNat, 0]
def k0_off14 (d0 : Dev nD) : Fin 2 → Nat :=
  let c1_i32_22 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_22 v2
  let c2_i32_23 : BitVec 32 := 2#32
  let v46 : BitVec 32 := Scalar.muli v45 c2_i32_23
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v47 : BitVec 32 := Scalar.addi v46 v5
  let c384_i32_191 : BitVec 32 := 384#32
  let v226 : BitVec 32 := Scalar.muli v47 c384_i32_191
  let c1_i32_56 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v88 : BitVec 32 := Scalar.subi c1_i32_56 v18
  let c192_i32 : BitVec 32 := 192#32
  let v89 : BitVec 32 := Scalar.muli v88 c192_i32
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let c96_i32_62 : BitVec 32 := 96#32
  let v99 : BitVec 32 := Scalar.muli v35 c96_i32_62
  let v100 : BitVec 32 := Scalar.addi v89 v99
  let v227 : BitVec 32 := Scalar.addi v226 v100
  let c0_i32_206 : BitVec 32 := 0#32
  ![v227.toNat, 0]
def k0_dev14 (d0 : Dev nD) : Nat :=
  let c0_i32_202 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v39 : BitVec 32 := Scalar.subi c1_i32_17 v2
  let c8_i32_201 : BitVec 32 := 8#32
  let v229 : BitVec 32 := Scalar.muli v39 c8_i32_201
  let v230 : BitVec 32 := Scalar.addi c0_i32_202 v229
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_203 : BitVec 32 := 4#32
  let v231 : BitVec 32 := Scalar.muli v5 c4_i32_203
  let v232 : BitVec 32 := Scalar.addi v230 v231
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_204 : BitVec 32 := 1#32
  let v233 : BitVec 32 := Scalar.muli v8 c1_i32_204
  let v234 : BitVec 32 := Scalar.addi v232 v233
  v234.toNat
def k0_off15 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_24 : BitVec 32 := 2#32
  let v48 : BitVec 32 := Scalar.muli v2 c2_i32_24
  let c1_i32_25 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v49 : BitVec 32 := Scalar.subi c1_i32_25 v5
  let v50 : BitVec 32 := Scalar.addi v48 v49
  let c384_i32_207 : BitVec 32 := 384#32
  let v241 : BitVec 32 := Scalar.muli v50 c384_i32_207
  let c1_i32_56 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v88 : BitVec 32 := Scalar.subi c1_i32_56 v18
  let c192_i32 : BitVec 32 := 192#32
  let v89 : BitVec 32 := Scalar.muli v88 c192_i32
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let c96_i32_62 : BitVec 32 := 96#32
  let v99 : BitVec 32 := Scalar.muli v35 c96_i32_62
  let v100 : BitVec 32 := Scalar.addi v89 v99
  let v242 : BitVec 32 := Scalar.addi v241 v100
  let c0_i32_222 : BitVec 32 := 0#32
  ![v242.toNat, 0]
def k0_dev15 (d0 : Dev nD) : Nat :=
  let c0_i32_218 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_217 : BitVec 32 := 8#32
  let v244 : BitVec 32 := Scalar.muli v2 c8_i32_217
  let v245 : BitVec 32 := Scalar.addi c0_i32_218 v244
  let c1_i32_18 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v40 : BitVec 32 := Scalar.subi c1_i32_18 v5
  let c4_i32_219 : BitVec 32 := 4#32
  let v246 : BitVec 32 := Scalar.muli v40 c4_i32_219
  let v247 : BitVec 32 := Scalar.addi v245 v246
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_220 : BitVec 32 := 1#32
  let v248 : BitVec 32 := Scalar.muli v8 c1_i32_220
  let v249 : BitVec 32 := Scalar.addi v247 v248
  v249.toNat
def k0_off16 (d0 : Dev nD) : Fin 2 → Nat :=
  let c1_i32_26 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v51 : BitVec 32 := Scalar.subi c1_i32_26 v2
  let c2_i32_27 : BitVec 32 := 2#32
  let v52 : BitVec 32 := Scalar.muli v51 c2_i32_27
  let c1_i32_28 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v53 : BitVec 32 := Scalar.subi c1_i32_28 v5
  let v54 : BitVec 32 := Scalar.addi v52 v53
  let c384_i32_223 : BitVec 32 := 384#32
  let v256 : BitVec 32 := Scalar.muli v54 c384_i32_223
  let c1_i32_56 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v88 : BitVec 32 := Scalar.subi c1_i32_56 v18
  let c192_i32 : BitVec 32 := 192#32
  let v89 : BitVec 32 := Scalar.muli v88 c192_i32
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let c96_i32_62 : BitVec 32 := 96#32
  let v99 : BitVec 32 := Scalar.muli v35 c96_i32_62
  let v100 : BitVec 32 := Scalar.addi v89 v99
  let v257 : BitVec 32 := Scalar.addi v256 v100
  let c0_i32_238 : BitVec 32 := 0#32
  ![v257.toNat, 0]
def k0_dev16 (d0 : Dev nD) : Nat :=
  let c0_i32_234 : BitVec 32 := 0#32
  let c1_i32_19 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v41 : BitVec 32 := Scalar.subi c1_i32_19 v2
  let c8_i32_233 : BitVec 32 := 8#32
  let v259 : BitVec 32 := Scalar.muli v41 c8_i32_233
  let v260 : BitVec 32 := Scalar.addi c0_i32_234 v259
  let c1_i32_20 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v42 : BitVec 32 := Scalar.subi c1_i32_20 v5
  let c4_i32_235 : BitVec 32 := 4#32
  let v261 : BitVec 32 := Scalar.muli v42 c4_i32_235
  let v262 : BitVec 32 := Scalar.addi v260 v261
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_236 : BitVec 32 := 1#32
  let v263 : BitVec 32 := Scalar.muli v8 c1_i32_236
  let v264 : BitVec 32 := Scalar.addi v262 v263
  v264.toNat
def k0_off17 (d0 : Dev nD) (c0_i32_240 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c192_i32_57 : BitVec 32 := 192#32
  let v90 : BitVec 32 := Scalar.muli v18 c192_i32_57
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let c96_i32_59 : BitVec 32 := 96#32
  let v94 : BitVec 32 := Scalar.muli v35 c96_i32_59
  let v95 : BitVec 32 := Scalar.addi v90 v94
  let v273 : BitVec 32 := Scalar.addi c0_i32_240 v95
  let c0_i32_252 : BitVec 32 := 0#32
  ![v273.toNat, 0]
def k0_off18 (d0 : Dev nD) : Fin 2 → Nat :=
  let c1_i32_22 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_22 v2
  let c2_i32_23 : BitVec 32 := 2#32
  let v46 : BitVec 32 := Scalar.muli v45 c2_i32_23
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v47 : BitVec 32 := Scalar.addi v46 v5
  let c384_i32_239 : BitVec 32 := 384#32
  let v271 : BitVec 32 := Scalar.muli v47 c384_i32_239
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c192_i32_57 : BitVec 32 := 192#32
  let v90 : BitVec 32 := Scalar.muli v18 c192_i32_57
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let c96_i32_59 : BitVec 32 := 96#32
  let v94 : BitVec 32 := Scalar.muli v35 c96_i32_59
  let v95 : BitVec 32 := Scalar.addi v90 v94
  let v272 : BitVec 32 := Scalar.addi v271 v95
  let c0_i32_253 : BitVec 32 := 0#32
  ![v272.toNat, 0]
def k0_dev17 (d0 : Dev nD) : Nat :=
  let c0_i32_249 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v39 : BitVec 32 := Scalar.subi c1_i32_17 v2
  let c8_i32_248 : BitVec 32 := 8#32
  let v274 : BitVec 32 := Scalar.muli v39 c8_i32_248
  let v275 : BitVec 32 := Scalar.addi c0_i32_249 v274
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_250 : BitVec 32 := 4#32
  let v276 : BitVec 32 := Scalar.muli v5 c4_i32_250
  let v277 : BitVec 32 := Scalar.addi v275 v276
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_251 : BitVec 32 := 1#32
  let v278 : BitVec 32 := Scalar.muli v8 c1_i32_251
  let v279 : BitVec 32 := Scalar.addi v277 v278
  v279.toNat
def k0_off19 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_24 : BitVec 32 := 2#32
  let v48 : BitVec 32 := Scalar.muli v2 c2_i32_24
  let c1_i32_25 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v49 : BitVec 32 := Scalar.subi c1_i32_25 v5
  let v50 : BitVec 32 := Scalar.addi v48 v49
  let c384_i32_254 : BitVec 32 := 384#32
  let v286 : BitVec 32 := Scalar.muli v50 c384_i32_254
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c192_i32_57 : BitVec 32 := 192#32
  let v90 : BitVec 32 := Scalar.muli v18 c192_i32_57
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let c96_i32_59 : BitVec 32 := 96#32
  let v94 : BitVec 32 := Scalar.muli v35 c96_i32_59
  let v95 : BitVec 32 := Scalar.addi v90 v94
  let v287 : BitVec 32 := Scalar.addi v286 v95
  let c0_i32_269 : BitVec 32 := 0#32
  ![v287.toNat, 0]
def k0_dev18 (d0 : Dev nD) : Nat :=
  let c0_i32_265 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_264 : BitVec 32 := 8#32
  let v289 : BitVec 32 := Scalar.muli v2 c8_i32_264
  let v290 : BitVec 32 := Scalar.addi c0_i32_265 v289
  let c1_i32_18 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v40 : BitVec 32 := Scalar.subi c1_i32_18 v5
  let c4_i32_266 : BitVec 32 := 4#32
  let v291 : BitVec 32 := Scalar.muli v40 c4_i32_266
  let v292 : BitVec 32 := Scalar.addi v290 v291
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_267 : BitVec 32 := 1#32
  let v293 : BitVec 32 := Scalar.muli v8 c1_i32_267
  let v294 : BitVec 32 := Scalar.addi v292 v293
  v294.toNat
def k0_off20 (d0 : Dev nD) : Fin 2 → Nat :=
  let c1_i32_26 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v51 : BitVec 32 := Scalar.subi c1_i32_26 v2
  let c2_i32_27 : BitVec 32 := 2#32
  let v52 : BitVec 32 := Scalar.muli v51 c2_i32_27
  let c1_i32_28 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v53 : BitVec 32 := Scalar.subi c1_i32_28 v5
  let v54 : BitVec 32 := Scalar.addi v52 v53
  let c384_i32_270 : BitVec 32 := 384#32
  let v301 : BitVec 32 := Scalar.muli v54 c384_i32_270
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c192_i32_57 : BitVec 32 := 192#32
  let v90 : BitVec 32 := Scalar.muli v18 c192_i32_57
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let c96_i32_59 : BitVec 32 := 96#32
  let v94 : BitVec 32 := Scalar.muli v35 c96_i32_59
  let v95 : BitVec 32 := Scalar.addi v90 v94
  let v302 : BitVec 32 := Scalar.addi v301 v95
  let c0_i32_285 : BitVec 32 := 0#32
  ![v302.toNat, 0]
def k0_dev19 (d0 : Dev nD) : Nat :=
  let c0_i32_281 : BitVec 32 := 0#32
  let c1_i32_19 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v41 : BitVec 32 := Scalar.subi c1_i32_19 v2
  let c8_i32_280 : BitVec 32 := 8#32
  let v304 : BitVec 32 := Scalar.muli v41 c8_i32_280
  let v305 : BitVec 32 := Scalar.addi c0_i32_281 v304
  let c1_i32_20 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v42 : BitVec 32 := Scalar.subi c1_i32_20 v5
  let c4_i32_282 : BitVec 32 := 4#32
  let v306 : BitVec 32 := Scalar.muli v42 c4_i32_282
  let v307 : BitVec 32 := Scalar.addi v305 v306
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_283 : BitVec 32 := 1#32
  let v308 : BitVec 32 := Scalar.muli v8 c1_i32_283
  let v309 : BitVec 32 := Scalar.addi v307 v308
  v309.toNat
def k0_off21 (d0 : Dev nD) : Fin 2 → Nat :=
  let c1536_i32_142 : BitVec 32 := 1536#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c256_i32_141 : BitVec 32 := 256#32
  let v179 : BitVec 32 := Scalar.muli v18 c256_i32_141
  let v180 : BitVec 32 := Scalar.addi c1536_i32_142 v179
  let c1_i32_111 : BitVec 32 := 1#32
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let v150 : BitVec 32 := Scalar.subi c1_i32_111 v35
  let c128_i32 : BitVec 32 := 128#32
  let v151 : BitVec 32 := Scalar.muli v150 c128_i32
  let v330 : BitVec 32 := Scalar.addi v180 v151
  let v331 : Index := Scalar.indexCast v330
  let c0_311 : Index := 0#32
  ![v331.toNat, 0]
def k0_off22 (d0 : Dev nD) : Fin 2 → Nat :=
  let c1_i32_111 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let v150 : BitVec 32 := Scalar.subi c1_i32_111 v35
  let c128_i32 : BitVec 32 := 128#32
  let v151 : BitVec 32 := Scalar.muli v150 c128_i32
  let v334 : Index := Scalar.indexCast v151
  let c0_312 : Index := 0#32
  ![v334.toNat, 0]
def k0_off23 (d0 : Dev nD) : Fin 2 → Nat :=
  let c1536_i32_142 : BitVec 32 := 1536#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c256_i32_141 : BitVec 32 := 256#32
  let v179 : BitVec 32 := Scalar.muli v18 c256_i32_141
  let v180 : BitVec 32 := Scalar.addi c1536_i32_142 v179
  let c1_i32_111 : BitVec 32 := 1#32
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let v150 : BitVec 32 := Scalar.subi c1_i32_111 v35
  let c128_i32 : BitVec 32 := 128#32
  let v151 : BitVec 32 := Scalar.muli v150 c128_i32
  let v340 : BitVec 32 := Scalar.addi v180 v151
  let c0_i32_328 : BitVec 32 := 0#32
  ![v340.toNat, 0]
def k0_dev20 (d0 : Dev nD) : Nat :=
  let c0_i32_323 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_322 : BitVec 32 := 8#32
  let v341 : BitVec 32 := Scalar.muli v2 c8_i32_322
  let v342 : BitVec 32 := Scalar.addi c0_i32_323 v341
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_324 : BitVec 32 := 4#32
  let v343 : BitVec 32 := Scalar.muli v5 c4_i32_324
  let v344 : BitVec 32 := Scalar.addi v342 v343
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_30 : BitVec 32 := 2#32
  let v56 : BitVec 32 := Scalar.xori v8 c2_i32_30
  let c1_i32_325 : BitVec 32 := 1#32
  let v345 : BitVec 32 := Scalar.muli v56 c1_i32_325
  let v346 : BitVec 32 := Scalar.addi v344 v345
  v346.toNat
def k0_off24 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_21 : BitVec 32 := 2#32
  let v43 : BitVec 32 := Scalar.muli v2 c2_i32_21
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.addi v43 v5
  let c384_i32 : BitVec 32 := 384#32
  let v101 : BitVec 32 := Scalar.muli v44 c384_i32
  let c1_i32_56 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v88 : BitVec 32 := Scalar.subi c1_i32_56 v18
  let c192_i32 : BitVec 32 := 192#32
  let v89 : BitVec 32 := Scalar.muli v88 c192_i32
  let c1_i32_60 : BitVec 32 := 1#32
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let v96 : BitVec 32 := Scalar.subi c1_i32_60 v35
  let c96_i32_61 : BitVec 32 := 96#32
  let v97 : BitVec 32 := Scalar.muli v96 c96_i32_61
  let v98 : BitVec 32 := Scalar.addi v89 v97
  let v395 : BitVec 32 := Scalar.addi v101 v98
  let v396 : Index := Scalar.indexCast v395
  let c0_404 : Index := 0#32
  ![v396.toNat, 0]
def k0_off25 (d0 : Dev nD) (c0_i32_405 : BitVec 32) : Fin 2 → Nat :=
  let c1_i32_56 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v88 : BitVec 32 := Scalar.subi c1_i32_56 v18
  let c192_i32 : BitVec 32 := 192#32
  let v89 : BitVec 32 := Scalar.muli v88 c192_i32
  let c1_i32_60 : BitVec 32 := 1#32
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let v96 : BitVec 32 := Scalar.subi c1_i32_60 v35
  let c96_i32_61 : BitVec 32 := 96#32
  let v97 : BitVec 32 := Scalar.muli v96 c96_i32_61
  let v98 : BitVec 32 := Scalar.addi v89 v97
  let v399 : BitVec 32 := Scalar.addi c0_i32_405 v98
  let v400 : Index := Scalar.indexCast v399
  let c0_406 : Index := 0#32
  ![v400.toNat, 0]
def k0_off26 (d0 : Dev nD) : Fin 2 → Nat :=
  let c1_i32_412 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let v415 : BitVec 32 := Scalar.subi c1_i32_412 v35
  let c96_i32_413 : BitVec 32 := 96#32
  let v416 : BitVec 32 := Scalar.muli v415 c96_i32_413
  let c0_i32_426 : BitVec 32 := 0#32
  ![v416.toNat, 0]
def k0_off27 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_21 : BitVec 32 := 2#32
  let v43 : BitVec 32 := Scalar.muli v2 c2_i32_21
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.addi v43 v5
  let c384_i32 : BitVec 32 := 384#32
  let v101 : BitVec 32 := Scalar.muli v44 c384_i32
  let c1_i32_56 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v88 : BitVec 32 := Scalar.subi c1_i32_56 v18
  let c192_i32 : BitVec 32 := 192#32
  let v89 : BitVec 32 := Scalar.muli v88 c192_i32
  let c1_i32_60 : BitVec 32 := 1#32
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let v96 : BitVec 32 := Scalar.subi c1_i32_60 v35
  let c96_i32_61 : BitVec 32 := 96#32
  let v97 : BitVec 32 := Scalar.muli v96 c96_i32_61
  let v98 : BitVec 32 := Scalar.addi v89 v97
  let v414 : BitVec 32 := Scalar.addi v101 v98
  let c0_i32_427 : BitVec 32 := 0#32
  ![v414.toNat, 0]
def k0_dev21 (d0 : Dev nD) : Nat :=
  let c0_i32_423 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_422 : BitVec 32 := 8#32
  let v417 : BitVec 32 := Scalar.muli v2 c8_i32_422
  let v418 : BitVec 32 := Scalar.addi c0_i32_423 v417
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_424 : BitVec 32 := 4#32
  let v419 : BitVec 32 := Scalar.muli v5 c4_i32_424
  let v420 : BitVec 32 := Scalar.addi v418 v419
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_29 : BitVec 32 := 1#32
  let v55 : BitVec 32 := Scalar.xori v8 c1_i32_29
  let c1_i32_425 : BitVec 32 := 1#32
  let v421 : BitVec 32 := Scalar.muli v55 c1_i32_425
  let v422 : BitVec 32 := Scalar.addi v420 v421
  v422.toNat
def k0_off28 (d0 : Dev nD) : Fin 2 → Nat :=
  let c1536_i32_142 : BitVec 32 := 1536#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c256_i32_141 : BitVec 32 := 256#32
  let v179 : BitVec 32 := Scalar.muli v18 c256_i32_141
  let v180 : BitVec 32 := Scalar.addi c1536_i32_142 v179
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let c128_i32_112 : BitVec 32 := 128#32
  let v152 : BitVec 32 := Scalar.muli v35 c128_i32_112
  let v443 : BitVec 32 := Scalar.addi v180 v152
  let v444 : Index := Scalar.indexCast v443
  let c0_453 : Index := 0#32
  ![v444.toNat, 0]
def k0_off29 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let c128_i32_112 : BitVec 32 := 128#32
  let v152 : BitVec 32 := Scalar.muli v35 c128_i32_112
  let v447 : Index := Scalar.indexCast v152
  let c0_454 : Index := 0#32
  ![v447.toNat, 0]
def k0_off30 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_21 : BitVec 32 := 2#32
  let v43 : BitVec 32 := Scalar.muli v2 c2_i32_21
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.addi v43 v5
  let c384_i32 : BitVec 32 := 384#32
  let v101 : BitVec 32 := Scalar.muli v44 c384_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c192_i32_57 : BitVec 32 := 192#32
  let v90 : BitVec 32 := Scalar.muli v18 c192_i32_57
  let c1_i32_58 : BitVec 32 := 1#32
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let v91 : BitVec 32 := Scalar.subi c1_i32_58 v35
  let c96_i32 : BitVec 32 := 96#32
  let v92 : BitVec 32 := Scalar.muli v91 c96_i32
  let v93 : BitVec 32 := Scalar.addi v90 v92
  let v509 : BitVec 32 := Scalar.addi v101 v93
  let v510 : Index := Scalar.indexCast v509
  let c0_556 : Index := 0#32
  ![v510.toNat, 0]
def k0_off31 (d0 : Dev nD) (c0_i32_557 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c192_i32_57 : BitVec 32 := 192#32
  let v90 : BitVec 32 := Scalar.muli v18 c192_i32_57
  let c1_i32_58 : BitVec 32 := 1#32
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let v91 : BitVec 32 := Scalar.subi c1_i32_58 v35
  let c96_i32 : BitVec 32 := 96#32
  let v92 : BitVec 32 := Scalar.muli v91 c96_i32
  let v93 : BitVec 32 := Scalar.addi v90 v92
  let v513 : BitVec 32 := Scalar.addi c0_i32_557 v93
  let v514 : Index := Scalar.indexCast v513
  let c0_558 : Index := 0#32
  ![v514.toNat, 0]
def k0_off32 (d0 : Dev nD) : Fin 2 → Nat :=
  let c1_i32_563 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let v525 : BitVec 32 := Scalar.subi c1_i32_563 v35
  let c96_i32_564 : BitVec 32 := 96#32
  let v526 : BitVec 32 := Scalar.muli v525 c96_i32_564
  let v527 : Index := Scalar.indexCast v526
  let c0_565 : Index := 0#32
  ![v527.toNat, 0]
def k0_off33 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_21 : BitVec 32 := 2#32
  let v43 : BitVec 32 := Scalar.muli v2 c2_i32_21
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.addi v43 v5
  let c384_i32 : BitVec 32 := 384#32
  let v101 : BitVec 32 := Scalar.muli v44 c384_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c192_i32_57 : BitVec 32 := 192#32
  let v90 : BitVec 32 := Scalar.muli v18 c192_i32_57
  let c1_i32_58 : BitVec 32 := 1#32
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let v91 : BitVec 32 := Scalar.subi c1_i32_58 v35
  let c96_i32 : BitVec 32 := 96#32
  let v92 : BitVec 32 := Scalar.muli v91 c96_i32
  let v93 : BitVec 32 := Scalar.addi v90 v92
  let v533 : BitVec 32 := Scalar.addi v101 v93
  let c0_i32_581 : BitVec 32 := 0#32
  ![v533.toNat, 0]
def k0_dev22 (d0 : Dev nD) : Nat :=
  let c0_i32_576 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_575 : BitVec 32 := 8#32
  let v534 : BitVec 32 := Scalar.muli v2 c8_i32_575
  let v535 : BitVec 32 := Scalar.addi c0_i32_576 v534
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_577 : BitVec 32 := 4#32
  let v536 : BitVec 32 := Scalar.muli v5 c4_i32_577
  let v537 : BitVec 32 := Scalar.addi v535 v536
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_30 : BitVec 32 := 2#32
  let v56 : BitVec 32 := Scalar.xori v8 c2_i32_30
  let c1_i32_578 : BitVec 32 := 1#32
  let v538 : BitVec 32 := Scalar.muli v56 c1_i32_578
  let v539 : BitVec 32 := Scalar.addi v537 v538
  v539.toNat
def k0_off34 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_21 : BitVec 32 := 2#32
  let v43 : BitVec 32 := Scalar.muli v2 c2_i32_21
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.addi v43 v5
  let c384_i32 : BitVec 32 := 384#32
  let v101 : BitVec 32 := Scalar.muli v44 c384_i32
  let c1_i32_56 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v88 : BitVec 32 := Scalar.subi c1_i32_56 v18
  let c192_i32 : BitVec 32 := 192#32
  let v89 : BitVec 32 := Scalar.muli v88 c192_i32
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let c96_i32_62 : BitVec 32 := 96#32
  let v99 : BitVec 32 := Scalar.muli v35 c96_i32_62
  let v100 : BitVec 32 := Scalar.addi v89 v99
  let v588 : BitVec 32 := Scalar.addi v101 v100
  let v589 : Index := Scalar.indexCast v588
  let c0_657 : Index := 0#32
  ![v589.toNat, 0]
def k0_off35 (d0 : Dev nD) (c0_i32_658 : BitVec 32) : Fin 2 → Nat :=
  let c1_i32_56 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v88 : BitVec 32 := Scalar.subi c1_i32_56 v18
  let c192_i32 : BitVec 32 := 192#32
  let v89 : BitVec 32 := Scalar.muli v88 c192_i32
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let c96_i32_62 : BitVec 32 := 96#32
  let v99 : BitVec 32 := Scalar.muli v35 c96_i32_62
  let v100 : BitVec 32 := Scalar.addi v89 v99
  let v592 : BitVec 32 := Scalar.addi c0_i32_658 v100
  let v593 : Index := Scalar.indexCast v592
  let c0_659 : Index := 0#32
  ![v593.toNat, 0]
def k0_off36 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let c96_i32_665 : BitVec 32 := 96#32
  let v608 : BitVec 32 := Scalar.muli v35 c96_i32_665
  let c0_i32_678 : BitVec 32 := 0#32
  ![v608.toNat, 0]
def k0_off37 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_21 : BitVec 32 := 2#32
  let v43 : BitVec 32 := Scalar.muli v2 c2_i32_21
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.addi v43 v5
  let c384_i32 : BitVec 32 := 384#32
  let v101 : BitVec 32 := Scalar.muli v44 c384_i32
  let c1_i32_56 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v88 : BitVec 32 := Scalar.subi c1_i32_56 v18
  let c192_i32 : BitVec 32 := 192#32
  let v89 : BitVec 32 := Scalar.muli v88 c192_i32
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let c96_i32_62 : BitVec 32 := 96#32
  let v99 : BitVec 32 := Scalar.muli v35 c96_i32_62
  let v100 : BitVec 32 := Scalar.addi v89 v99
  let v607 : BitVec 32 := Scalar.addi v101 v100
  let c0_i32_679 : BitVec 32 := 0#32
  ![v607.toNat, 0]
def k0_dev23 (d0 : Dev nD) : Nat :=
  let c0_i32_675 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_674 : BitVec 32 := 8#32
  let v609 : BitVec 32 := Scalar.muli v2 c8_i32_674
  let v610 : BitVec 32 := Scalar.addi c0_i32_675 v609
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_676 : BitVec 32 := 4#32
  let v611 : BitVec 32 := Scalar.muli v5 c4_i32_676
  let v612 : BitVec 32 := Scalar.addi v610 v611
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_29 : BitVec 32 := 1#32
  let v55 : BitVec 32 := Scalar.xori v8 c1_i32_29
  let c1_i32_677 : BitVec 32 := 1#32
  let v613 : BitVec 32 := Scalar.muli v55 c1_i32_677
  let v614 : BitVec 32 := Scalar.addi v612 v613
  v614.toNat
def k0_off38 (d0 : Dev nD) : Fin 2 → Nat :=
  let c1536_i32_142 : BitVec 32 := 1536#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c256_i32_141 : BitVec 32 := 256#32
  let v179 : BitVec 32 := Scalar.muli v18 c256_i32_141
  let v180 : BitVec 32 := Scalar.addi c1536_i32_142 v179
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let c128_i32_707 : BitVec 32 := 128#32
  let v635 : BitVec 32 := Scalar.muli v35 c128_i32_707
  let v636 : BitVec 32 := Scalar.addi v180 v635
  let c1_i32_22 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_22 v2
  let c2_i32_23 : BitVec 32 := 2#32
  let v46 : BitVec 32 := Scalar.muli v45 c2_i32_23
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v47 : BitVec 32 := Scalar.addi v46 v5
  let c32_i32 : BitVec 32 := 32#32
  let v644 : BitVec 32 := Scalar.muli v47 c32_i32
  let v645 : BitVec 32 := Scalar.addi v636 v644
  let c0_i32_725 : BitVec 32 := 0#32
  ![v645.toNat, 0]
def k0_dev24 (d0 : Dev nD) : Nat :=
  let c0_i32_720 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v39 : BitVec 32 := Scalar.subi c1_i32_17 v2
  let c8_i32_719 : BitVec 32 := 8#32
  let v646 : BitVec 32 := Scalar.muli v39 c8_i32_719
  let v647 : BitVec 32 := Scalar.addi c0_i32_720 v646
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_721 : BitVec 32 := 4#32
  let v648 : BitVec 32 := Scalar.muli v5 c4_i32_721
  let v649 : BitVec 32 := Scalar.addi v647 v648
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_722 : BitVec 32 := 1#32
  let v650 : BitVec 32 := Scalar.muli v8 c1_i32_722
  let v651 : BitVec 32 := Scalar.addi v649 v650
  v651.toNat
def k0_off39 (d0 : Dev nD) : Fin 2 → Nat :=
  let c1536_i32_142 : BitVec 32 := 1536#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c256_i32_141 : BitVec 32 := 256#32
  let v179 : BitVec 32 := Scalar.muli v18 c256_i32_141
  let v180 : BitVec 32 := Scalar.addi c1536_i32_142 v179
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let c128_i32_707 : BitVec 32 := 128#32
  let v635 : BitVec 32 := Scalar.muli v35 c128_i32_707
  let v636 : BitVec 32 := Scalar.addi v180 v635
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_24 : BitVec 32 := 2#32
  let v48 : BitVec 32 := Scalar.muli v2 c2_i32_24
  let c1_i32_25 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v49 : BitVec 32 := Scalar.subi c1_i32_25 v5
  let v50 : BitVec 32 := Scalar.addi v48 v49
  let c32_i32_726 : BitVec 32 := 32#32
  let v658 : BitVec 32 := Scalar.muli v50 c32_i32_726
  let v659 : BitVec 32 := Scalar.addi v636 v658
  let c0_i32_741 : BitVec 32 := 0#32
  ![v659.toNat, 0]
def k0_dev25 (d0 : Dev nD) : Nat :=
  let c0_i32_736 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_735 : BitVec 32 := 8#32
  let v660 : BitVec 32 := Scalar.muli v2 c8_i32_735
  let v661 : BitVec 32 := Scalar.addi c0_i32_736 v660
  let c1_i32_18 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v40 : BitVec 32 := Scalar.subi c1_i32_18 v5
  let c4_i32_737 : BitVec 32 := 4#32
  let v662 : BitVec 32 := Scalar.muli v40 c4_i32_737
  let v663 : BitVec 32 := Scalar.addi v661 v662
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v664 : BitVec 32 := Scalar.muli v8 c1_i32_738
  let v665 : BitVec 32 := Scalar.addi v663 v664
  v665.toNat
def k0_off40 (d0 : Dev nD) : Fin 2 → Nat :=
  let c1536_i32_142 : BitVec 32 := 1536#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c256_i32_141 : BitVec 32 := 256#32
  let v179 : BitVec 32 := Scalar.muli v18 c256_i32_141
  let v180 : BitVec 32 := Scalar.addi c1536_i32_142 v179
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let c128_i32_707 : BitVec 32 := 128#32
  let v635 : BitVec 32 := Scalar.muli v35 c128_i32_707
  let v636 : BitVec 32 := Scalar.addi v180 v635
  let c1_i32_26 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v51 : BitVec 32 := Scalar.subi c1_i32_26 v2
  let c2_i32_27 : BitVec 32 := 2#32
  let v52 : BitVec 32 := Scalar.muli v51 c2_i32_27
  let c1_i32_28 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v53 : BitVec 32 := Scalar.subi c1_i32_28 v5
  let v54 : BitVec 32 := Scalar.addi v52 v53
  let c32_i32_742 : BitVec 32 := 32#32
  let v672 : BitVec 32 := Scalar.muli v54 c32_i32_742
  let v673 : BitVec 32 := Scalar.addi v636 v672
  let c0_i32_756 : BitVec 32 := 0#32
  ![v673.toNat, 0]
def k0_dev26 (d0 : Dev nD) : Nat :=
  let c0_i32_752 : BitVec 32 := 0#32
  let c1_i32_19 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v41 : BitVec 32 := Scalar.subi c1_i32_19 v2
  let c8_i32_751 : BitVec 32 := 8#32
  let v674 : BitVec 32 := Scalar.muli v41 c8_i32_751
  let v675 : BitVec 32 := Scalar.addi c0_i32_752 v674
  let c1_i32_20 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v42 : BitVec 32 := Scalar.subi c1_i32_20 v5
  let c4_i32_753 : BitVec 32 := 4#32
  let v676 : BitVec 32 := Scalar.muli v42 c4_i32_753
  let v677 : BitVec 32 := Scalar.addi v675 v676
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_754 : BitVec 32 := 1#32
  let v678 : BitVec 32 := Scalar.muli v8 c1_i32_754
  let v679 : BitVec 32 := Scalar.addi v677 v678
  v679.toNat
def k0_off41 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_21 : BitVec 32 := 2#32
  let v43 : BitVec 32 := Scalar.muli v2 c2_i32_21
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.addi v43 v5
  let c384_i32 : BitVec 32 := 384#32
  let v101 : BitVec 32 := Scalar.muli v44 c384_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c192_i32_57 : BitVec 32 := 192#32
  let v90 : BitVec 32 := Scalar.muli v18 c192_i32_57
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let c96_i32_59 : BitVec 32 := 96#32
  let v94 : BitVec 32 := Scalar.muli v35 c96_i32_59
  let v95 : BitVec 32 := Scalar.addi v90 v94
  let v756 : BitVec 32 := Scalar.addi v101 v95
  let v757 : Index := Scalar.indexCast v756
  let c0_884 : Index := 0#32
  ![v757.toNat, 0]
def k0_off42 (d0 : Dev nD) (c0_i32_885 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c192_i32_57 : BitVec 32 := 192#32
  let v90 : BitVec 32 := Scalar.muli v18 c192_i32_57
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let c96_i32_59 : BitVec 32 := 96#32
  let v94 : BitVec 32 := Scalar.muli v35 c96_i32_59
  let v95 : BitVec 32 := Scalar.addi v90 v94
  let v760 : BitVec 32 := Scalar.addi c0_i32_885 v95
  let v761 : Index := Scalar.indexCast v760
  let c0_886 : Index := 0#32
  ![v761.toNat, 0]
def k0_off43 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let c96_i32_891 : BitVec 32 := 96#32
  let v772 : BitVec 32 := Scalar.muli v35 c96_i32_891
  let v773 : Index := Scalar.indexCast v772
  let c0_892 : Index := 0#32
  ![v773.toNat, 0]
def k0_off44 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_21 : BitVec 32 := 2#32
  let v43 : BitVec 32 := Scalar.muli v2 c2_i32_21
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.addi v43 v5
  let c384_i32 : BitVec 32 := 384#32
  let v101 : BitVec 32 := Scalar.muli v44 c384_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c192_i32_57 : BitVec 32 := 192#32
  let v90 : BitVec 32 := Scalar.muli v18 c192_i32_57
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let c96_i32_59 : BitVec 32 := 96#32
  let v94 : BitVec 32 := Scalar.muli v35 c96_i32_59
  let v95 : BitVec 32 := Scalar.addi v90 v94
  let v756 : BitVec 32 := Scalar.addi v101 v95
  let c0_i32_907 : BitVec 32 := 0#32
  ![v756.toNat, 0]
def k0_dev27 (d0 : Dev nD) : Nat :=
  let c0_i32_904 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v39 : BitVec 32 := Scalar.subi c1_i32_17 v2
  let c8_i32_903 : BitVec 32 := 8#32
  let v780 : BitVec 32 := Scalar.muli v39 c8_i32_903
  let v781 : BitVec 32 := Scalar.addi c0_i32_904 v780
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_905 : BitVec 32 := 4#32
  let v782 : BitVec 32 := Scalar.muli v5 c4_i32_905
  let v783 : BitVec 32 := Scalar.addi v781 v782
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_906 : BitVec 32 := 1#32
  let v784 : BitVec 32 := Scalar.muli v8 c1_i32_906
  let v785 : BitVec 32 := Scalar.addi v783 v784
  v785.toNat
def k0_dev28 (d0 : Dev nD) : Nat :=
  let c0_i32_918 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_917 : BitVec 32 := 8#32
  let v792 : BitVec 32 := Scalar.muli v2 c8_i32_917
  let v793 : BitVec 32 := Scalar.addi c0_i32_918 v792
  let c1_i32_18 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v40 : BitVec 32 := Scalar.subi c1_i32_18 v5
  let c4_i32_919 : BitVec 32 := 4#32
  let v794 : BitVec 32 := Scalar.muli v40 c4_i32_919
  let v795 : BitVec 32 := Scalar.addi v793 v794
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_920 : BitVec 32 := 1#32
  let v796 : BitVec 32 := Scalar.muli v8 c1_i32_920
  let v797 : BitVec 32 := Scalar.addi v795 v796
  v797.toNat
def k0_dev29 (d0 : Dev nD) : Nat :=
  let c0_i32_932 : BitVec 32 := 0#32
  let c1_i32_19 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v41 : BitVec 32 := Scalar.subi c1_i32_19 v2
  let c8_i32_931 : BitVec 32 := 8#32
  let v804 : BitVec 32 := Scalar.muli v41 c8_i32_931
  let v805 : BitVec 32 := Scalar.addi c0_i32_932 v804
  let c1_i32_20 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v42 : BitVec 32 := Scalar.subi c1_i32_20 v5
  let c4_i32_933 : BitVec 32 := 4#32
  let v806 : BitVec 32 := Scalar.muli v42 c4_i32_933
  let v807 : BitVec 32 := Scalar.addi v805 v806
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_934 : BitVec 32 := 1#32
  let v808 : BitVec 32 := Scalar.muli v8 c1_i32_934
  let v809 : BitVec 32 := Scalar.addi v807 v808
  v809.toNat
def k0_dev30 (d0 : Dev nD) : Nat :=
  let c0_i32_946 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_945 : BitVec 32 := 8#32
  let v816 : BitVec 32 := Scalar.muli v2 c8_i32_945
  let v817 : BitVec 32 := Scalar.addi c0_i32_946 v816
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_947 : BitVec 32 := 4#32
  let v818 : BitVec 32 := Scalar.muli v5 c4_i32_947
  let v819 : BitVec 32 := Scalar.addi v817 v818
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_30 : BitVec 32 := 2#32
  let v56 : BitVec 32 := Scalar.xori v8 c2_i32_30
  let c1_i32_948 : BitVec 32 := 1#32
  let v820 : BitVec 32 := Scalar.muli v56 c1_i32_948
  let v821 : BitVec 32 := Scalar.addi v819 v820
  v821.toNat
def k0_dev31 (d0 : Dev nD) : Nat :=
  let c0_i32_960 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_959 : BitVec 32 := 8#32
  let v828 : BitVec 32 := Scalar.muli v2 c8_i32_959
  let v829 : BitVec 32 := Scalar.addi c0_i32_960 v828
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_961 : BitVec 32 := 4#32
  let v830 : BitVec 32 := Scalar.muli v5 c4_i32_961
  let v831 : BitVec 32 := Scalar.addi v829 v830
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_29 : BitVec 32 := 1#32
  let v55 : BitVec 32 := Scalar.xori v8 c1_i32_29
  let c1_i32_962 : BitVec 32 := 1#32
  let v832 : BitVec 32 := Scalar.muli v55 c1_i32_962
  let v833 : BitVec 32 := Scalar.addi v831 v832
  v833.toNat
def k0_off45 (d0 : Dev nD) : Fin 2 → Nat :=
  let c1536_i32_142 : BitVec 32 := 1536#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c256_i32_141 : BitVec 32 := 256#32
  let v179 : BitVec 32 := Scalar.muli v18 c256_i32_141
  let v180 : BitVec 32 := Scalar.addi c1536_i32_142 v179
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let c128_i32_707 : BitVec 32 := 128#32
  let v635 : BitVec 32 := Scalar.muli v35 c128_i32_707
  let v636 : BitVec 32 := Scalar.addi v180 v635
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_21 : BitVec 32 := 2#32
  let v43 : BitVec 32 := Scalar.muli v2 c2_i32_21
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.addi v43 v5
  let c32_i32_1046 : BitVec 32 := 32#32
  let v882 : BitVec 32 := Scalar.muli v44 c32_i32_1046
  let v883 : BitVec 32 := Scalar.addi v636 v882
  let v884 : Index := Scalar.indexCast v883
  let c0_1047 : Index := 0#32
  ![v884.toNat, 0]
def k0_off46 (d0 : Dev nD) : Fin 2 → Nat :=
  let c1536_i32_142 : BitVec 32 := 1536#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c256_i32_141 : BitVec 32 := 256#32
  let v179 : BitVec 32 := Scalar.muli v18 c256_i32_141
  let v180 : BitVec 32 := Scalar.addi c1536_i32_142 v179
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let c128_i32_707 : BitVec 32 := 128#32
  let v635 : BitVec 32 := Scalar.muli v35 c128_i32_707
  let v636 : BitVec 32 := Scalar.addi v180 v635
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_21 : BitVec 32 := 2#32
  let v43 : BitVec 32 := Scalar.muli v2 c2_i32_21
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.addi v43 v5
  let c32_i32_1046 : BitVec 32 := 32#32
  let v882 : BitVec 32 := Scalar.muli v44 c32_i32_1046
  let v883 : BitVec 32 := Scalar.addi v636 v882
  let c0_i32_1065 : BitVec 32 := 0#32
  ![v883.toNat, 0]
def k0_dev32 (d0 : Dev nD) : Nat :=
  let c0_i32_1062 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v39 : BitVec 32 := Scalar.subi c1_i32_17 v2
  let c8_i32_1061 : BitVec 32 := 8#32
  let v895 : BitVec 32 := Scalar.muli v39 c8_i32_1061
  let v896 : BitVec 32 := Scalar.addi c0_i32_1062 v895
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1063 : BitVec 32 := 4#32
  let v897 : BitVec 32 := Scalar.muli v5 c4_i32_1063
  let v898 : BitVec 32 := Scalar.addi v896 v897
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1064 : BitVec 32 := 1#32
  let v899 : BitVec 32 := Scalar.muli v8 c1_i32_1064
  let v900 : BitVec 32 := Scalar.addi v898 v899
  v900.toNat
def k0_dev33 (d0 : Dev nD) : Nat :=
  let c0_i32_1076 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1075 : BitVec 32 := 8#32
  let v907 : BitVec 32 := Scalar.muli v2 c8_i32_1075
  let v908 : BitVec 32 := Scalar.addi c0_i32_1076 v907
  let c1_i32_18 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v40 : BitVec 32 := Scalar.subi c1_i32_18 v5
  let c4_i32_1077 : BitVec 32 := 4#32
  let v909 : BitVec 32 := Scalar.muli v40 c4_i32_1077
  let v910 : BitVec 32 := Scalar.addi v908 v909
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1078 : BitVec 32 := 1#32
  let v911 : BitVec 32 := Scalar.muli v8 c1_i32_1078
  let v912 : BitVec 32 := Scalar.addi v910 v911
  v912.toNat
def k0_dev34 (d0 : Dev nD) : Nat :=
  let c0_i32_1090 : BitVec 32 := 0#32
  let c1_i32_19 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v41 : BitVec 32 := Scalar.subi c1_i32_19 v2
  let c8_i32_1089 : BitVec 32 := 8#32
  let v919 : BitVec 32 := Scalar.muli v41 c8_i32_1089
  let v920 : BitVec 32 := Scalar.addi c0_i32_1090 v919
  let c1_i32_20 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v42 : BitVec 32 := Scalar.subi c1_i32_20 v5
  let c4_i32_1091 : BitVec 32 := 4#32
  let v921 : BitVec 32 := Scalar.muli v42 c4_i32_1091
  let v922 : BitVec 32 := Scalar.addi v920 v921
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1092 : BitVec 32 := 1#32
  let v923 : BitVec 32 := Scalar.muli v8 c1_i32_1092
  let v924 : BitVec 32 := Scalar.addi v922 v923
  v924.toNat
def k0_dev35 (d0 : Dev nD) : Nat :=
  let c0_i32_1129 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v39 : BitVec 32 := Scalar.subi c1_i32_17 v2
  let c8_i32_1128 : BitVec 32 := 8#32
  let v946 : BitVec 32 := Scalar.muli v39 c8_i32_1128
  let v947 : BitVec 32 := Scalar.addi c0_i32_1129 v946
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1130 : BitVec 32 := 4#32
  let v948 : BitVec 32 := Scalar.muli v5 c4_i32_1130
  let v949 : BitVec 32 := Scalar.addi v947 v948
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1131 : BitVec 32 := 1#32
  let v950 : BitVec 32 := Scalar.muli v8 c1_i32_1131
  let v951 : BitVec 32 := Scalar.addi v949 v950
  v951.toNat
def k0_dev36 (d0 : Dev nD) : Nat :=
  let c0_i32_1143 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1142 : BitVec 32 := 8#32
  let v958 : BitVec 32 := Scalar.muli v2 c8_i32_1142
  let v959 : BitVec 32 := Scalar.addi c0_i32_1143 v958
  let c1_i32_18 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v40 : BitVec 32 := Scalar.subi c1_i32_18 v5
  let c4_i32_1144 : BitVec 32 := 4#32
  let v960 : BitVec 32 := Scalar.muli v40 c4_i32_1144
  let v961 : BitVec 32 := Scalar.addi v959 v960
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1145 : BitVec 32 := 1#32
  let v962 : BitVec 32 := Scalar.muli v8 c1_i32_1145
  let v963 : BitVec 32 := Scalar.addi v961 v962
  v963.toNat
def k0_dev37 (d0 : Dev nD) : Nat :=
  let c0_i32_1157 : BitVec 32 := 0#32
  let c1_i32_19 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v41 : BitVec 32 := Scalar.subi c1_i32_19 v2
  let c8_i32_1156 : BitVec 32 := 8#32
  let v970 : BitVec 32 := Scalar.muli v41 c8_i32_1156
  let v971 : BitVec 32 := Scalar.addi c0_i32_1157 v970
  let c1_i32_20 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v42 : BitVec 32 := Scalar.subi c1_i32_20 v5
  let c4_i32_1158 : BitVec 32 := 4#32
  let v972 : BitVec 32 := Scalar.muli v42 c4_i32_1158
  let v973 : BitVec 32 := Scalar.addi v971 v972
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1159 : BitVec 32 := 1#32
  let v974 : BitVec 32 := Scalar.muli v8 c1_i32_1159
  let v975 : BitVec 32 := Scalar.addi v973 v974
  v975.toNat
def k0_dev38 (d0 : Dev nD) : Nat :=
  let c0_i32_1171 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1170 : BitVec 32 := 8#32
  let v984 : BitVec 32 := Scalar.muli v2 c8_i32_1170
  let v985 : BitVec 32 := Scalar.addi c0_i32_1171 v984
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1172 : BitVec 32 := 4#32
  let v986 : BitVec 32 := Scalar.muli v5 c4_i32_1172
  let v987 : BitVec 32 := Scalar.addi v985 v986
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_29 : BitVec 32 := 1#32
  let v55 : BitVec 32 := Scalar.xori v8 c1_i32_29
  let c1_i32_1173 : BitVec 32 := 1#32
  let v988 : BitVec 32 := Scalar.muli v55 c1_i32_1173
  let v989 : BitVec 32 := Scalar.addi v987 v988
  v989.toNat
def k0_off47 (d0 : Dev nD) : Fin 2 → Nat :=
  let c1536_i32_142 : BitVec 32 := 1536#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c256_i32_141 : BitVec 32 := 256#32
  let v179 : BitVec 32 := Scalar.muli v18 c256_i32_141
  let v180 : BitVec 32 := Scalar.addi c1536_i32_142 v179
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let c128_i32_707 : BitVec 32 := 128#32
  let v635 : BitVec 32 := Scalar.muli v35 c128_i32_707
  let v636 : BitVec 32 := Scalar.addi v180 v635
  let c0_i32_1263 : BitVec 32 := 0#32
  ![v636.toNat, 0]
def k0_dev39 (d0 : Dev nD) : Nat :=
  let c0_i32_1260 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1259 : BitVec 32 := 8#32
  let v1038 : BitVec 32 := Scalar.muli v2 c8_i32_1259
  let v1039 : BitVec 32 := Scalar.addi c0_i32_1260 v1038
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1261 : BitVec 32 := 4#32
  let v1040 : BitVec 32 := Scalar.muli v5 c4_i32_1261
  let v1041 : BitVec 32 := Scalar.addi v1039 v1040
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_30 : BitVec 32 := 2#32
  let v56 : BitVec 32 := Scalar.xori v8 c2_i32_30
  let c1_i32_1262 : BitVec 32 := 1#32
  let v1042 : BitVec 32 := Scalar.muli v56 c1_i32_1262
  let v1043 : BitVec 32 := Scalar.addi v1041 v1042
  v1043.toNat
def k0_dev40 (d0 : Dev nD) : Nat :=
  let c0_i32_1274 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1273 : BitVec 32 := 8#32
  let v1050 : BitVec 32 := Scalar.muli v2 c8_i32_1273
  let v1051 : BitVec 32 := Scalar.addi c0_i32_1274 v1050
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1275 : BitVec 32 := 4#32
  let v1052 : BitVec 32 := Scalar.muli v5 c4_i32_1275
  let v1053 : BitVec 32 := Scalar.addi v1051 v1052
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_29 : BitVec 32 := 1#32
  let v55 : BitVec 32 := Scalar.xori v8 c1_i32_29
  let c1_i32_1276 : BitVec 32 := 1#32
  let v1054 : BitVec 32 := Scalar.muli v55 c1_i32_1276
  let v1055 : BitVec 32 := Scalar.addi v1053 v1054
  v1055.toNat
def k0_off48 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_21 : BitVec 32 := 2#32
  let v43 : BitVec 32 := Scalar.muli v2 c2_i32_21
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.addi v43 v5
  let c384_i32 : BitVec 32 := 384#32
  let v101 : BitVec 32 := Scalar.muli v44 c384_i32
  let c1_i32_56 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v88 : BitVec 32 := Scalar.subi c1_i32_56 v18
  let c192_i32 : BitVec 32 := 192#32
  let v89 : BitVec 32 := Scalar.muli v88 c192_i32
  let v1076 : BitVec 32 := Scalar.addi v101 v89
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let c96_i32_1304 : BitVec 32 := 96#32
  let v1077 : BitVec 32 := Scalar.muli v35 c96_i32_1304
  let v1078 : BitVec 32 := Scalar.addi v1076 v1077
  let c0_i32_1317 : BitVec 32 := 0#32
  ![v1078.toNat, 0]
def k0_dev41 (d0 : Dev nD) : Nat :=
  let c0_i32_1314 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v39 : BitVec 32 := Scalar.subi c1_i32_17 v2
  let c8_i32_1313 : BitVec 32 := 8#32
  let v1079 : BitVec 32 := Scalar.muli v39 c8_i32_1313
  let v1080 : BitVec 32 := Scalar.addi c0_i32_1314 v1079
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1315 : BitVec 32 := 4#32
  let v1081 : BitVec 32 := Scalar.muli v5 c4_i32_1315
  let v1082 : BitVec 32 := Scalar.addi v1080 v1081
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1316 : BitVec 32 := 1#32
  let v1083 : BitVec 32 := Scalar.muli v8 c1_i32_1316
  let v1084 : BitVec 32 := Scalar.addi v1082 v1083
  v1084.toNat
def k0_dev42 (d0 : Dev nD) : Nat :=
  let c0_i32_1328 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1327 : BitVec 32 := 8#32
  let v1091 : BitVec 32 := Scalar.muli v2 c8_i32_1327
  let v1092 : BitVec 32 := Scalar.addi c0_i32_1328 v1091
  let c1_i32_18 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v40 : BitVec 32 := Scalar.subi c1_i32_18 v5
  let c4_i32_1329 : BitVec 32 := 4#32
  let v1093 : BitVec 32 := Scalar.muli v40 c4_i32_1329
  let v1094 : BitVec 32 := Scalar.addi v1092 v1093
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1330 : BitVec 32 := 1#32
  let v1095 : BitVec 32 := Scalar.muli v8 c1_i32_1330
  let v1096 : BitVec 32 := Scalar.addi v1094 v1095
  v1096.toNat
def k0_dev43 (d0 : Dev nD) : Nat :=
  let c0_i32_1342 : BitVec 32 := 0#32
  let c1_i32_19 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v41 : BitVec 32 := Scalar.subi c1_i32_19 v2
  let c8_i32_1341 : BitVec 32 := 8#32
  let v1103 : BitVec 32 := Scalar.muli v41 c8_i32_1341
  let v1104 : BitVec 32 := Scalar.addi c0_i32_1342 v1103
  let c1_i32_20 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v42 : BitVec 32 := Scalar.subi c1_i32_20 v5
  let c4_i32_1343 : BitVec 32 := 4#32
  let v1105 : BitVec 32 := Scalar.muli v42 c4_i32_1343
  let v1106 : BitVec 32 := Scalar.addi v1104 v1105
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1344 : BitVec 32 := 1#32
  let v1107 : BitVec 32 := Scalar.muli v8 c1_i32_1344
  let v1108 : BitVec 32 := Scalar.addi v1106 v1107
  v1108.toNat
def k0_dev44 (d0 : Dev nD) : Nat :=
  let c0_i32_1387 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1386 : BitVec 32 := 8#32
  let v1137 : BitVec 32 := Scalar.muli v2 c8_i32_1386
  let v1138 : BitVec 32 := Scalar.addi c0_i32_1387 v1137
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1388 : BitVec 32 := 4#32
  let v1139 : BitVec 32 := Scalar.muli v5 c4_i32_1388
  let v1140 : BitVec 32 := Scalar.addi v1138 v1139
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_29 : BitVec 32 := 1#32
  let v55 : BitVec 32 := Scalar.xori v8 c1_i32_29
  let c1_i32_1389 : BitVec 32 := 1#32
  let v1141 : BitVec 32 := Scalar.muli v55 c1_i32_1389
  let v1142 : BitVec 32 := Scalar.addi v1140 v1141
  v1142.toNat
def k0_off49 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_21 : BitVec 32 := 2#32
  let v43 : BitVec 32 := Scalar.muli v2 c2_i32_21
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.addi v43 v5
  let c384_i32 : BitVec 32 := 384#32
  let v101 : BitVec 32 := Scalar.muli v44 c384_i32
  let c1_i32_56 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v88 : BitVec 32 := Scalar.subi c1_i32_56 v18
  let c192_i32 : BitVec 32 := 192#32
  let v89 : BitVec 32 := Scalar.muli v88 c192_i32
  let v1163 : BitVec 32 := Scalar.addi v101 v89
  let c1_i32_1417 : BitVec 32 := 1#32
  let c0_i32_8 : BitVec 32 := 0#32
  let v20 : BitVec 1 := Scalar.cmpi .sgt v8 c0_i32_8
  let v21 : BitVec 32 := Scalar.extui v20
  let c0_i32_9 : BitVec 32 := 0#32
  let v22 : BitVec 1 := Scalar.cmpi .slt v8 c0_i32_9
  let v23 : BitVec 32 := Scalar.extui v22
  let v24 : BitVec 32 := Scalar.subi v21 v23
  let c2_i32_7 : BitVec 32 := 2#32
  let c0_i32_10 : BitVec 32 := 0#32
  let v25 : BitVec 1 := Scalar.cmpi .sgt c2_i32_7 c0_i32_10
  let v26 : BitVec 32 := Scalar.extui v25
  let c0_i32_11 : BitVec 32 := 0#32
  let v27 : BitVec 1 := Scalar.cmpi .slt c2_i32_7 c0_i32_11
  let v28 : BitVec 32 := Scalar.extui v27
  let v29 : BitVec 32 := Scalar.subi v26 v28
  let v30 : BitVec 1 := Scalar.cmpi .ne v24 v29
  let v31 : BitVec 32 := Scalar.remsi v8 c2_i32_7
  let c0_i32_12 : BitVec 32 := 0#32
  let v32 : BitVec 1 := Scalar.cmpi .ne v31 c0_i32_12
  let v33 : BitVec 1 := Scalar.andi v30 v32
  let v19 : BitVec 32 := Scalar.divsi v8 c2_i32_7
  let c1_i32_13 : BitVec 32 := 1#32
  let v34 : BitVec 32 := Scalar.subi v19 c1_i32_13
  let v35 : BitVec 32 := Scalar.select v33 v34 v19
  let v1164 : BitVec 32 := Scalar.subi c1_i32_1417 v35
  let c96_i32_1418 : BitVec 32 := 96#32
  let v1165 : BitVec 32 := Scalar.muli v1164 c96_i32_1418
  let v1166 : BitVec 32 := Scalar.addi v1163 v1165
  let c0_i32_1431 : BitVec 32 := 0#32
  ![v1166.toNat, 0]
def k0_dev45 (d0 : Dev nD) : Nat :=
  let c0_i32_1428 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v39 : BitVec 32 := Scalar.subi c1_i32_17 v2
  let c8_i32_1427 : BitVec 32 := 8#32
  let v1167 : BitVec 32 := Scalar.muli v39 c8_i32_1427
  let v1168 : BitVec 32 := Scalar.addi c0_i32_1428 v1167
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1429 : BitVec 32 := 4#32
  let v1169 : BitVec 32 := Scalar.muli v5 c4_i32_1429
  let v1170 : BitVec 32 := Scalar.addi v1168 v1169
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1430 : BitVec 32 := 1#32
  let v1171 : BitVec 32 := Scalar.muli v8 c1_i32_1430
  let v1172 : BitVec 32 := Scalar.addi v1170 v1171
  v1172.toNat
def k0_dev46 (d0 : Dev nD) : Nat :=
  let c0_i32_1442 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1441 : BitVec 32 := 8#32
  let v1179 : BitVec 32 := Scalar.muli v2 c8_i32_1441
  let v1180 : BitVec 32 := Scalar.addi c0_i32_1442 v1179
  let c1_i32_18 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v40 : BitVec 32 := Scalar.subi c1_i32_18 v5
  let c4_i32_1443 : BitVec 32 := 4#32
  let v1181 : BitVec 32 := Scalar.muli v40 c4_i32_1443
  let v1182 : BitVec 32 := Scalar.addi v1180 v1181
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1444 : BitVec 32 := 1#32
  let v1183 : BitVec 32 := Scalar.muli v8 c1_i32_1444
  let v1184 : BitVec 32 := Scalar.addi v1182 v1183
  v1184.toNat
def k0_dev47 (d0 : Dev nD) : Nat :=
  let c0_i32_1456 : BitVec 32 := 0#32
  let c1_i32_19 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v41 : BitVec 32 := Scalar.subi c1_i32_19 v2
  let c8_i32_1455 : BitVec 32 := 8#32
  let v1191 : BitVec 32 := Scalar.muli v41 c8_i32_1455
  let v1192 : BitVec 32 := Scalar.addi c0_i32_1456 v1191
  let c1_i32_20 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v42 : BitVec 32 := Scalar.subi c1_i32_20 v5
  let c4_i32_1457 : BitVec 32 := 4#32
  let v1193 : BitVec 32 := Scalar.muli v42 c4_i32_1457
  let v1194 : BitVec 32 := Scalar.addi v1192 v1193
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1458 : BitVec 32 := 1#32
  let v1195 : BitVec 32 := Scalar.muli v8 c1_i32_1458
  let v1196 : BitVec 32 := Scalar.addi v1194 v1195
  v1196.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x2x4x2048x1024 : Shape := ⟨5, ![2, 2, 4, 2048, 1024]⟩
abbrev S_ : Shape := ⟨0, ![]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2x2x4x2048x1024, .bf16⟩
  | .hbm, ⟨1, _⟩ => ⟨S2x2x4x2048x1024, .f32⟩
  | .hbm, ⟨2, _⟩ => ⟨S_, .f32⟩
  | .hbm, ⟨3, _⟩ => ⟨S2048x1024, .f32⟩
  | .hbm, ⟨4, _⟩ => ⟨S2048x1024, .bf16⟩
  | _, _ => ⟨S2x2x4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Rows.lean ====
/- Rows of a core's buffers as pieces of ownership: a run of rows of one buffer held at contents given by a
   function of row and column, its splitting, the views a transfer names, and the loads and stores over it. -/
module

public import proofs.«01_k».proof.Proof.Gen.KernelIdeal.Frame
public import proofs.«01_k».proof.Proof.Gen.KernelIdeal.Skeleton
public import Idealize.ShloMosaic.Lib.Pipeline.Regions
public import Idealize.ShloMosaic.Lib.Pipeline.RegionTalk
public import Idealize.ShloMosaic.Lib.Pipeline.Kit
public import Idealize.ShloMosaic.Lib.Tactic

@[expose] public section

set_option maxRecDepth 16384

noncomputable section

namespace Cert.HierProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Ghost state: the pipeline's, and the exchange's own rounds, each cell's duties named by a number below five. -/
abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The buffers -/

/-- The five buffers the exchange moves rows of: the accumulator and the four landing buffers. -/
inductive Bf | acc | xyA | xyB | zA | zB
deriving DecidableEq

def bh : Bf → ℕ | .acc => 2048 | .xyA => 1152 | .xyB => 96 | .zA => 288 | .zB => 384

/-- A shape of `n` rows of 1024. -/
abbrev rs (n : ℕ) : Shape := ⟨2, ![n, 1024]⟩

abbrev br : Bf → Ref sig .tc
  | .acc => cc0_stg1_0 | .xyA => cc0_scratch0 | .xyB => cc0_scratch1 | .zA => cc0_scratch2 | .zB => cc0_scratch3

abbrev mr : (b : Bf) → Memref sig .tc .vmem (rs (bh b)) .bf16
  | .acc => Memref.whole cc0_stg1_0
  | .xyA => Memref.whole cc0_scratch0
  | .xyB => Memref.whole cc0_scratch1
  | .zA => Memref.whole cc0_scratch2
  | .zB => Memref.whole cc0_scratch3

/-- Values by row and column. -/
abbrev Fld (F : FTy → Type) := ℕ → ℕ → F .bf16

/-- A buffer's contents from values by row and column. -/
def cont : (b : Bf) → Fld F → (mr b).view.ty.Contents (Elt F)
  | .acc, g => fun i => g (i 0).val (i 1).val
  | .xyA, g => fun i => g (i 0).val (i 1).val
  | .xyB, g => fun i => g (i 0).val (i 1).val
  | .zA, g => fun i => g (i 0).val (i 1).val
  | .zB, g => fun i => g (i 0).val (i 1).val

/-- `n` rows' values, from row `r` of `g`. -/
def blk (n r : ℕ) (g : Fld F) : (rs n).Idx → Elt F .bf16 := fun i => g (r + (i 0).val) (i 1).val

/-- The rows `r ≤ · < r + n` of a shape. -/
def rowSet (h r n : ℕ) : Finset (rs h).Idx := Finset.univ.filter fun i => r ≤ (i 0).val ∧ (i 0).val < r + n

theorem mem_rowSet {h r n : ℕ} {i : (rs h).Idx} : i ∈ rowSet h r n ↔ r ≤ (i 0).val ∧ (i 0).val < r + n := by
  simp [rowSet]

/-- Those rows of a buffer. -/
def rset (b : Bf) (r n : ℕ) : Finset (mr b).view.ty.Idx := (mr b).view.setOn (rowSet (bh b) r n)

/-- Core `c` holds at share `q` the rows `r ≤ · < r + n` of its buffer `b`, at the values `g`. -/
def PT (b : Bf) (c : Dev nD) (r n : ℕ) (q : PosShare TreeShare) (g : Fld F) : sProp 𝕄 :=
  (mr b).view.loc (c : Thread nD τ) ↦[rset b r n]{q} cont b g

instance PT_storable (b : Bf) (c : Dev nD) (r n : ℕ) (q : PosShare TreeShare) (g : Fld F) :
    BI.Storable (upEmb : UEmb _ 𝕄) (PT b c r n q g) := by unfold PT; infer_instance

omit [FloatOps F] in
/-- Only the rows held matter. -/
theorem PT_congr (b : Bf) (c : Dev nD) (r n : ℕ) (q : PosShare TreeShare) {g g' : Fld F}
    (h : ∀ i, r ≤ i → i < r + n → ∀ j, j < 1024 → g i j = g' i j) : (PT b c r n q g : sProp 𝕄) = PT b c r n q g' := by
  unfold PT
  refine pointsTo_congr fun i hi => ?_
  obtain ⟨j, hj, rfl⟩ := Finset.mem_map.mp hi
  have hj := mem_rowSet.mp hj
  have h1 : (j 1).val < 1024 := (j 1).isLt
  cases b <;> exact h _ hj.1 hj.2 _ h1

omit [FloatOps F] in
/-- A run of rows is its first `a` rows and the rest. -/
theorem PT_split (b : Bf) (c : Dev nD) (r a n : ℕ) (q : PosShare TreeShare) (g : Fld F) :
    (PT b c r (a + n) q g : sProp 𝕄) ⊣⊢ iprop(PT b c r a q g ∗ PT b c (r + a) n q g) := by
  unfold PT
  have hd : Disjoint (rset b r a) (rset b (r + a) n) := by
    unfold rset View.setOn
    rw [Finset.disjoint_map, Finset.disjoint_left]
    intro i h₁ h₂
    have h₁ := mem_rowSet.mp h₁; have h₂ := mem_rowSet.mp h₂; omega
  have hu : rset b r (a + n) = rset b r a ∪ rset b (r + a) n := by
    unfold rset View.setOn
    rw [← Finset.map_union]; congr 1
    ext i; rw [Finset.mem_union, mem_rowSet, mem_rowSet, mem_rowSet]; omega
  rw [hu]; exact pointsTo_union hd

omit [FloatOps F] in
/-- A share of a run of rows is its two halves. -/
theorem PT_share (b : Bf) (c : Dev nD) (r n : ℕ) (q : PosShare TreeShare) (g : Fld F) :
    (PT b c r n q g : sProp 𝕄) ⊣⊢ iprop(PT b c r n q.left g ∗ PT b c r n q.right g) := by
  unfold PT; exact pointsTo_share (PosShare.mem_left_op_right _)

omit [FloatOps F] in
theorem rset_whole (b : Bf) : rset b 0 (bh b) = Finset.univ := by
  have : rowSet (bh b) 0 (bh b) = Finset.univ := by
    ext i; rw [mem_rowSet]
    have : (i 0).val < bh b := (i 0).isLt
    simp [this]
  unfold rset; rw [this]
  cases b <;> exact View.set_whole _

/-! ## The slices the transfers and the loads name -/

theorem slice_rowSet {h n r : ℕ} {off : Fin 2 → ℕ} (ho : off = ![r, 0])
    (inb : ∀ a, off a + (rs n).size a ≤ (rs h).size a) : (Rect.unit (s := rs h) off (rs n).size inb).set = rowSet h r n := by
  subst ho
  ext i
  have h1 : (i 1).val < 1024 := (i 1).isLt
  rw [Rect.mem_set_unit, mem_rowSet]
  refine Fin.forall_fin_two.trans ?_
  simp only [Matrix.cons_val_zero, Matrix.cons_val_one]
  omega

/-- `n` rows of a buffer from the offsets `off`, as a transfer names them. -/
abbrev ms (b : Bf) (n : ℕ) (off : Fin 2 → ℕ) (inb : ∀ a, off a + (rs n).size a ≤ (rs (bh b)).size a) :
    Memref sig .tc .vmem (rs n) .bf16 :=
  (mr b).slice (Rect.unit (s := rs (bh b)) off (rs n).size inb) (fun _ => rfl)

section Views
variable (b : Bf) {n r : ℕ} {off : Fin 2 → ℕ} (ho : off = ![r, 0]) (inb : ∀ a, off a + (rs n).size a ≤ (rs (bh b)).size a)
include ho

theorem ms_set : (ms b n off inb).view.set = rset b r n := by
  show ((mr b).view.slice _).set = _
  rw [View.set_slice, slice_rowSet ho]; rfl

omit [FloatOps F] in
theorem ms_read (g : Fld F) : (ms b n off inb).view.read (Elt F) (cont b g) = blk n r g := by
  subst ho
  funext i
  cases b <;>
  · show g _ _ = g _ _
    congr 1
    · exact congrArg (r + ·) (Nat.one_mul _)
    · show 0 + 1 * _ = _
      omega

omit [FloatOps F] in
theorem ms_write (fd : (mr b).view.ty.Contents (Elt F)) (g : Fld F) (w : (rs n).Idx → Elt F .bf16) (hw : w = blk n r g) :
    ∀ i ∈ rset b r n, (ms b n off inb).view.write (Elt F) fd w Finset.univ i = cont b g i := by
  subst ho hw
  intro i hi
  rw [← ms_set b rfl inb] at hi
  obtain ⟨j, -, rfl⟩ := Finset.mem_map.mp hi
  rw [View.write_emb_of_mem _ _ (Finset.mem_univ j), ← ms_read b rfl inb g]
  cases b <;> rfl

omit [FloatOps F] in
theorem ms_readAt (g : Fld F) :
    (mr b).view.readAt (Elt F) (Rect.unit (s := rs (bh b)) off (rs n).size inb).toLoadRect (cont b g) = blk n r g := by
  rw [← ms_read b ho inb g]
  cases b <;> rfl

end Views

/-! ## Loads and stores -/

section Mem
variable (b : Bf) {n r : ℕ} {off : Fin 2 → ℕ} (ho : off = ![r, 0]) (inb : ∀ a, off a + (rs n).size a ≤ (rs (bh b)).size a) (c : Dev nD)
include ho

/-- A load of a run of rows. -/
theorem wp_ld {hl : (mr b).view.LoadsAt (Rect.unit (s := rs (bh b)) off (rs n).size inb).toLoadRect} {α : Type} {Q : α → sProp 𝕄}
    {k : ((rs n).Idx → Elt F .bf16) → Prog (TpuEff nD τ sig (Elt F) Λ₀ .tc) α} (q : PosShare TreeShare) (g : Fld F) :
    (PT b c r n q g)
      ⊢ iprop((PT b c r n q g -∗ wp frame (wpE (defs₀ (F := F)) 𝒱₀ (c : Thread nD τ) none) Set.univ (k (blk n r g)) Q)
        -∗ wp frame (wpE (defs₀ (F := F)) 𝒱₀ (c : Thread nD τ) none) Set.univ
          (.op (.load (mr b) (Rect.unit (s := rs (bh b)) off (rs n).size inb).toLoadRect hl) k) Q) := by
  rw [← ms_readAt b ho inb g]
  unfold PT
  refine wp_load 𝒱₀ (c : Thread nD τ) none Set.univ (m := mr b) ?_
  rw [show (Rect.unit (s := rs (bh b)) off (rs n).size inb).toLoadRect.set = rowSet (bh b) r n from slice_rowSet ho inb]
  exact Finset.Subset.refl _

/-- A store over a run of rows. -/
theorem wp_st {w : (rs n).Idx → Elt F .bf16} {hx : ((mr b).access (Rect.unit (s := rs (bh b)) off (rs n).size inb)).Stores Finset.univ}
    {hm : (Finset.univ : Finset (rs n).Idx) = Finset.univ ∨ ∀ a, (Rect.unit (s := rs (bh b)) off (rs n).size inb).stride a = 1} {α : Type} {Q : α → sProp 𝕄}
    {k : PUnit → Prog (TpuEff nD τ sig (Elt F) Λ₀ .tc) α} (g g' : Fld F) (hw : w = blk n r g') :
    (PT b c r n fullShare g)
      ⊢ iprop((PT b c r n fullShare g' -∗ wp frame (wpE (defs₀ (F := F)) 𝒱₀ (c : Thread nD τ) none) Set.univ (k ⟨⟩) Q)
        -∗ wp frame (wpE (defs₀ (F := F)) 𝒱₀ (c : Thread nD τ) none) Set.univ
          (.op (.store (mr b) (Rect.unit (s := rs (bh b)) off (rs n).size inb) w Finset.univ hx hm) k) Q) := by
  have hs : ((mr b).access (Rect.unit (s := rs (bh b)) off (rs n).size inb)).setOn Finset.univ = rset b r n := ms_set b ho inb
  have hc : (PT b c r n fullShare g' : sProp 𝕄) = ((mr b).view.loc (c : Thread nD τ) ↦[rset b r n]{fullShare}
      (ms b n off inb).view.write (Elt F) (cont b g) w Finset.univ) := by
    unfold PT; exact (pointsTo_congr (ms_write b ho inb (cont b g) g' w hw)).symm
  rw [hc]; unfold PT
  exact wp_store 𝒱₀ (c : Thread nD τ) none Set.univ (m := mr b) (r := Rect.unit (s := rs (bh b)) off (rs n).size inb) (Mk := Finset.univ)
    (S := rset b r n) (f := cont b g) (by rw [hs])

end Mem

end Cert.HierProof
-- ==== Proof.Plan.lean ====
/- The exchange's plan: the devices' peers, the blocks of rows and their owners, the values each step makes, the
   forty-two copies in the order a core starts them, and the schedule of the cells they complete on. -/
module

public import proofs.«01_k».proof.Proof.Rows

@[expose] public section

set_option maxRecDepth 16384

noncomputable section

namespace Cert.HierProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Devices: bit 3 the place along x, bit 2 along y, bits 1 and 0 along z -/

/-- The device whose number differs from `c`'s in the bits of `μ`. -/
def fl (μ : ℕ) (c : Dev nD) : Dev nD := ⟨(c.val ^^^ μ) % 16, Nat.mod_lt _ (by decide)⟩

theorem fl_fl (μ ν : ℕ) (hμ : μ < 16) (hν : ν < 16) (c : Dev nD) : fl μ (fl ν c) = fl (ν ^^^ μ) c := by
  have hc : c.val < 2 ^ 4 := c.isLt
  have h1 : c.val ^^^ ν < 16 := Nat.xor_lt_two_pow (n := 4) hc hν
  refine Fin.ext ?_
  show ((c.val ^^^ ν) % 16 ^^^ μ) % 16 = (c.val ^^^ (ν ^^^ μ)) % 16
  rw [Nat.mod_eq_of_lt h1, Nat.xor_assoc]

theorem fl_zero (c : Dev nD) : fl 0 c = c := by
  refine Fin.ext ?_
  show (c.val ^^^ 0) % 16 = c.val
  rw [Nat.xor_zero]; exact Nat.mod_eq_of_lt c.isLt

theorem fl_self (μ : ℕ) (hμ : μ < 16) (c : Dev nD) : fl μ (fl μ c) = c := by
  rw [fl_fl μ μ hμ hμ, Nat.xor_self, fl_zero]

/-- The offset of a device's rows within a quarter of the first part. -/
def oA (d : Dev nD) : ℕ := d.val % 2 * 192 + d.val / 2 % 2 * 96
/-- The first row device `d` finishes in the first part (96 rows). -/
def rA (d : Dev nD) : ℕ := d.val / 4 * 384 + oA d
/-- The first row of the 128 rows the devices at `d`'s place along z finish in the second part. -/
def rB (d : Dev nD) : ℕ := 1536 + d.val % 2 * 256 + d.val / 2 % 2 * 128
/-- The first row device `d` finishes in the second part (32 rows). -/
def rQ (d : Dev nD) : ℕ := rB d + d.val / 4 * 32

/-- The device that finishes row `i`. -/
def own (i : ℕ) : Dev nD :=
  if i < 1536 then ⟨(i / 384 * 4 + i % 384 / 192 + 2 * (i % 192 / 96)) % 16, Nat.mod_lt _ (by decide)⟩
  else ⟨((i - 1536) % 128 / 32 * 4 + (i - 1536) / 256 + 2 * ((i - 1536) % 256 / 128)) % 16, Nat.mod_lt _ (by decide)⟩

theorem own_A (d : Dev nD) (i : ℕ) (h1 : rA d ≤ i) (h2 : i < rA d + 96) : i < 1536 ∧ own i = d := by
  have hd : d.val < 16 := d.isLt
  unfold rA oA at h1 h2
  have hi : i < 1536 := by omega
  refine ⟨hi, Fin.ext ?_⟩
  unfold own; rw [if_pos hi]
  show (i / 384 * 4 + i % 384 / 192 + 2 * (i % 192 / 96)) % 16 = d.val
  have e1 : i / 384 = d.val / 4 := by omega
  have e2 : i % 384 / 192 = d.val % 2 := by omega
  have e3 : i % 192 / 96 = d.val / 2 % 2 := by omega
  rw [e1, e2, e3, Nat.mod_eq_of_lt (by omega)]; omega

theorem own_Q (d : Dev nD) (i : ℕ) (h1 : rQ d ≤ i) (h2 : i < rQ d + 32) : ¬ i < 1536 ∧ own i = d := by
  have hd : d.val < 16 := d.isLt
  unfold rQ rB at h1 h2
  have hi : ¬ i < 1536 := by omega
  refine ⟨hi, Fin.ext ?_⟩
  unfold own; rw [if_neg hi]
  show ((i - 1536) % 128 / 32 * 4 + (i - 1536) / 256 + 2 * ((i - 1536) % 256 / 128)) % 16 = d.val
  have e1 : (i - 1536) % 128 / 32 = d.val / 4 := by omega
  have e2 : (i - 1536) / 256 = d.val % 2 := by omega
  have e3 : (i - 1536) % 256 / 128 = d.val / 2 % 2 := by omega
  rw [e1, e2, e3, Nat.mod_eq_of_lt (by omega)]; omega

/-! ## The values -/

/-- The sum, place by place. -/
def pl (a b : Fld F) : Fld F := fun i j => FloatOps.addf (a i j) (b i j)

theorem blk_pl (n r : ℕ) (a b : Fld F) : blk n r (pl a b) = addf (s := rs n) (φ := .bf16) (blk n r a) (blk n r b) := rfl

section Values
variable (x : Dev nD → Fld F)

/-- Summed over the four devices at `c`'s place along z. -/
def vS (c : Dev nD) : Fld F := pl (pl (pl (x c) (x (fl 8 c))) (x (fl 4 c))) (x (fl 12 c))
def vT (c : Dev nD) : Fld F := pl (vS x c) (vS x (fl 1 c))
/-- A device's finished rows of the first part. -/
def vA (c : Dev nD) : Fld F := pl (vT x c) (vT x (fl 2 c))
def vU1 (c : Dev nD) : Fld F := pl (x c) (x (fl 1 c))
def vU2 (c : Dev nD) : Fld F := pl (vU1 x c) (vU1 x (fl 2 c))
/-- A device's finished rows of the second part. -/
def vB (c : Dev nD) : Fld F := pl (pl (pl (vU2 x c) (vU2 x (fl 8 c))) (vU2 x (fl 4 c))) (vU2 x (fl 12 c))
/-- The whole result. -/
def vG : Fld F := fun i j => if i < 1536 then vA x (own i) i j else vB x (own i) i j

theorem vG_A (d : Dev nD) (i j : ℕ) (h1 : rA d ≤ i) (h2 : i < rA d + 96) : vA x d i j = vG x i j := by
  obtain ⟨hi, ho⟩ := own_A d i h1 h2
  unfold vG; rw [if_pos hi, ho]

theorem vG_Q (d : Dev nD) (i j : ℕ) (h1 : rQ d ≤ i) (h2 : i < rQ d + 32) : vB x d i j = vG x i j := by
  obtain ⟨hi, ho⟩ := own_Q d i h1 h2
  unfold vG; rw [if_neg hi, ho]

end Values

/-- The kinds of values copied: as loaded, the four partial sums, the result. -/
inductive Ct | X | S | T | U1 | U2 | G
deriving DecidableEq

def ctv (x : Dev nD → Fld F) : Ct → Dev nD → Fld F
  | .X => x | .S => vS x | .T => vT x | .U1 => vU1 x | .U2 => vU2 x | .G => fun _ => vG x

/-- The kinds of blocks copied: 96 rows of the first part, 128 or 32 of the second. -/
inductive Ty | A | B | Q
deriving DecidableEq

def tyr : Ty → Dev nD → ℕ | .A => rA | .B => rB | .Q => rQ
def tyn : Ty → ℕ | .A => 96 | .B => 128 | .Q => 32

/-- One copy: the peer's number, the bits in which the peer and the owner of the rows differ from the sender, the block,
    the landing buffer and the landing row (`base + α h + β w` at the owner's two z bits), the numbers of the sender's and
    receiver's semaphores, what is copied, the share of the source lent. -/
structure Cp where
  pi : Fin 5
  pm : ℕ
  sm : ℕ
  ty : Ty
  b : Bf
  base : ℕ
  α : ℕ
  β : ℕ
  ss : ℕ
  rr : ℕ
  ct : Ct
  sh : PosShare TreeShare

/-- The shares lent to the readers of one block, one after the other, and the last one's. -/
def shr : ℕ → PosShare TreeShare
  | 0 => fullShare
  | n + 1 => (shr n).right

/-- The copies, in the order a core starts them. -/
def tab : List Cp := [
  ⟨0, 8, 11, .A, .xyA, 0, 192, 96, 2, 50, .X, fullShare⟩,
  ⟨1, 4, 7, .A, .xyA, 384, 192, 96, 3, 51, .X, fullShare⟩,
  ⟨2, 12, 15, .A, .xyA, 768, 192, 96, 4, 52, .X, fullShare⟩,
  ⟨3, 1, 3, .B, .zB, 0, 0, 128, 106, 122, .X, fullShare⟩,
  ⟨3, 1, 1, .B, .zB, 0, 0, 128, 107, 123, .X, fullShare⟩,
  ⟨0, 8, 10, .A, .xyA, 0, 192, 96, 5, 53, .X, fullShare⟩,
  ⟨1, 4, 6, .A, .xyA, 384, 192, 96, 6, 54, .X, fullShare⟩,
  ⟨2, 12, 14, .A, .xyA, 768, 192, 96, 7, 55, .X, fullShare⟩,
  ⟨0, 8, 9, .A, .xyA, 0, 192, 96, 8, 56, .X, fullShare⟩,
  ⟨1, 4, 5, .A, .xyA, 384, 192, 96, 9, 57, .X, fullShare⟩,
  ⟨2, 12, 13, .A, .xyA, 768, 192, 96, 10, 58, .X, fullShare⟩,
  ⟨0, 8, 8, .A, .xyA, 0, 192, 96, 11, 59, .X, fullShare⟩,
  ⟨1, 4, 4, .A, .xyA, 384, 192, 96, 12, 60, .X, fullShare⟩,
  ⟨2, 12, 12, .A, .xyA, 768, 192, 96, 13, 61, .X, fullShare⟩,
  ⟨4, 2, 2, .B, .zB, 256, 0, 0, 108, 124, .U1, fullShare⟩,
  ⟨3, 1, 3, .A, .zA, 0, 0, 96, 98, 114, .S, fullShare⟩,
  ⟨4, 2, 2, .A, .zA, 192, 0, 0, 100, 116, .T, fullShare⟩,
  ⟨3, 1, 1, .A, .zA, 0, 0, 96, 99, 115, .S, fullShare⟩,
  ⟨0, 8, 8, .Q, .xyB, 0, 0, 0, 26, 74, .U2, fullShare⟩,
  ⟨1, 4, 4, .Q, .xyB, 32, 0, 0, 27, 75, .U2, fullShare⟩,
  ⟨2, 12, 12, .Q, .xyB, 64, 0, 0, 28, 76, .U2, fullShare⟩,
  ⟨0, 8, 0, .A, .acc, 0, 0, 0, 14, 62, .G, (shr 0).left⟩,
  ⟨1, 4, 0, .A, .acc, 0, 0, 0, 15, 63, .G, (shr 1).left⟩,
  ⟨2, 12, 0, .A, .acc, 0, 0, 0, 16, 64, .G, (shr 2).left⟩,
  ⟨4, 2, 0, .A, .acc, 0, 0, 0, 104, 120, .G, (shr 3).left⟩,
  ⟨3, 1, 0, .A, .acc, 0, 0, 0, 102, 118, .G, shr 4⟩,
  ⟨0, 8, 0, .Q, .acc, 0, 0, 0, 38, 86, .G, (shr 0).left⟩,
  ⟨1, 4, 0, .Q, .acc, 0, 0, 0, 39, 87, .G, (shr 1).left⟩,
  ⟨2, 12, 0, .Q, .acc, 0, 0, 0, 40, 88, .G, shr 2⟩,
  ⟨0, 8, 2, .A, .acc, 0, 0, 0, 17, 65, .G, (shr 0).left⟩,
  ⟨1, 4, 2, .A, .acc, 0, 0, 0, 18, 66, .G, (shr 1).left⟩,
  ⟨2, 12, 2, .A, .acc, 0, 0, 0, 19, 67, .G, (shr 2).left⟩,
  ⟨3, 1, 2, .A, .acc, 0, 0, 0, 103, 119, .G, shr 3⟩,
  ⟨4, 2, 0, .B, .acc, 0, 0, 0, 112, 128, .G, (shr 0).left⟩,
  ⟨3, 1, 0, .B, .acc, 0, 0, 0, 110, 126, .G, shr 1⟩,
  ⟨0, 8, 1, .A, .acc, 0, 0, 0, 20, 68, .G, (shr 0).left⟩,
  ⟨1, 4, 1, .A, .acc, 0, 0, 0, 21, 69, .G, (shr 1).left⟩,
  ⟨2, 12, 1, .A, .acc, 0, 0, 0, 22, 70, .G, shr 2⟩,
  ⟨3, 1, 2, .B, .acc, 0, 0, 0, 111, 127, .G, fullShare⟩,
  ⟨0, 8, 3, .A, .acc, 0, 0, 0, 23, 71, .G, (shr 0).left⟩,
  ⟨1, 4, 3, .A, .acc, 0, 0, 0, 24, 72, .G, (shr 1).left⟩,
  ⟨2, 12, 3, .A, .acc, 0, 0, 0, 25, 73, .G, shr 2⟩]

def cp (k : Fin 42) : Cp := tab.get ⟨k.val, k.isLt⟩

theorem cp_bounds : ∀ k : Fin 42, (cp k).pm < 16 ∧ (cp k).sm < 16 ∧ 2 ≤ (cp k).ss ∧ (cp k).ss < 130 ∧ 2 ≤ (cp k).rr ∧ (cp k).rr < 130 := by
  decide

/-- The block copied, at the sender `c`. -/
def srow (k : Fin 42) (c : Dev nD) : ℕ := tyr (cp k).ty (fl (cp k).sm c)
/-- Its number of rows. -/
def cn (k : Fin 42) : ℕ := tyn (cp k).ty
/-- The row it lands at, the sender `c`. -/
def drow (k : Fin 42) (c : Dev nD) : ℕ :=
  (cp k).base + (cp k).α * ((fl (cp k).sm c).val % 2) + (cp k).β * ((fl (cp k).sm c).val / 2 % 2)
/-- The peer. -/
def pe (k : Fin 42) (c : Dev nD) : Dev nD := fl (cp k).pm c
theorem pe_pe (k : Fin 42) (c : Dev nD) : pe k (pe k c) = c := fl_self _ (cp_bounds k).1 c

/-- The semaphores copy `k` completes on, at the sender and at the receiver. -/
def ssem (k : Fin 42) : DmaSem sig := ⟨(cp k).ss, (cp_bounds k).2.2.2.1⟩
def rsem (k : Fin 42) : DmaSem sig := ⟨(cp k).rr, (cp_bounds k).2.2.2.2.2⟩

/-- The reverse lookup. -/
def dec (s : DmaSem sig) : Option (Bool × Fin 42) :=
  match (List.finRange 42).find? (fun k => ssem k = s) with
  | some k => some (false, k)
  | none => match (List.finRange 42).find? (fun k => rsem k = s) with
    | some k => some (true, k)
    | none => none

theorem dec_ssem : ∀ k : Fin 42, dec (ssem k) = some (false, k) := by decide +kernel
theorem dec_rsem : ∀ k : Fin 42, dec (rsem k) = some (true, k) := by decide +kernel

/-- The bits of the five peers. -/
def pmk : Fin 5 → ℕ := ![8, 4, 12, 1, 2]
theorem pm_eq : ∀ k : Fin 42, (cp k).pm = pmk (cp k).pi := by decide
theorem pmk_lt : ∀ i : Fin 5, pmk i < 16 := by decide
/-- The five peers. -/
def pr (i : Fin 5) (c : Dev nD) : Dev nD := fl (pmk i) c
theorem pr_pr (i : Fin 5) (c : Dev nD) : pr i (pr i c) = c := fl_self _ (pmk_lt i) c
theorem pe_eq (k : Fin 42) (c : Dev nD) : pe k c = pr (cp k).pi c := by unfold pe pr; rw [pm_eq]

/-! ## Cells -/

abbrev barS : Sem sig := (SemArray.scalar (sig.barrier 0 rfl) : Sems sig S_).sem
abbrev barCell (c : Dev nD) : GSem nD τ sig := ((c : Thread nD τ), .reg barS)
abbrev sendCell (k : Fin 42) (c : Dev nD) : GSem nD τ sig := ((c : Thread nD τ), .dma (ssem k))
abbrev recvCell (k : Fin 42) (c : Dev nD) : GSem nD τ sig := ((c : Thread nD τ), .dma (rsem k))

/-- What a transfer of `n` rows credits. -/
def cr (n : ℕ) : ℕ := sig.dmaCredit .tc (Kind.table .tc .vmem) (mr .acc).view.buf (rs n) .bf16
theorem cr_eq (b : Bf) (n : ℕ) (off : Fin 2 → ℕ) (inb) : (ms b n off inb).view.dmaCredit = cr n := by
  cases b <;> rfl
theorem cr_pos (n : ℕ) (h : 0 < n) : 0 < cr n :=
  sig.dmaCredit_pos _ _ _ _ _ (by rw [Shape.numel, Fin.prod_univ_two]; exact Nat.mul_pos h (show 0 < 1024 by decide))
/-- What copy `k` credits. -/
def N (k : Fin 42) : ℕ := cr (cn k)
theorem N_pos (k : Fin 42) : 0 < N k := cr_pos _ (by revert k; decide)

/-! ## The schedule -/

/-- Values of row `i` onward placed at row `r` onward. -/
def shift (i r : ℕ) (g : Fld F) : Fld F := fun a j => g (a - r + i) j

omit [FloatOps F] in
theorem blk_shift (n i r : ℕ) (g : Fld F) : blk n r (shift i r g) = blk n i g := by
  funext a; unfold blk shift
  rw [show r + (a 0).val - r + i = i + (a 0).val by omega]

/-- Rows at some values. -/
def PX (b : Bf) (c : Dev nD) (r n : ℕ) : sProp 𝕄 := iprop(∃ g : Fld F, PT b c r n fullShare g)

omit [FloatOps F] in
instance PX_storable (b : Bf) (c : Dev nD) (r n : ℕ) : BI.Storable (upEmb : UEmb _ 𝕄) (PX (F := F) b c r n) := by
  unfold PX; infer_instance

/-- The first twenty-one copies go to landing buffers, the rest to the result. -/
def Rs (k : Fin 42) : Prop := k.val < 21
instance (k : Fin 42) : Decidable (Rs k) := inferInstanceAs (Decidable (k.val < 21))

/-- Where the copy `k` of `c` lands, if a landing buffer. -/
def land (c : Dev nD) (k : Fin 42) : sProp 𝕄 := if Rs k then PX (F := F) (cp k).b (pe k c) (drow k c) (cn k) else iprop(emp)

/-- What peer number `i` hands `c` at the barrier: where `c`'s copies to it land, and that it is ready for them. -/
def barPay (c : Dev nD) (i : Fin 5) : sProp 𝕄 :=
  bigSep (Finset.univ.filter fun k => (cp k).pi = i) fun k => iprop(land (F := F) c k ∗ reached ER (recvCell k (pe k c)) 0)

variable (x : Dev nD → Fld F)

/-- What the landing of the copy `k` from `p` hands `p`'s peer: the rows landed, and for a landing buffer the rows they
    were copied from. -/
def recvPay (k : Fin 42) (p : Dev nD) : sProp 𝕄 :=
  if Rs k then iprop(PT (cp k).b (pe k p) (drow k p) (cn k) fullShare (shift (srow k p) (drow k p) (ctv x (cp k).ct p))
    ∗ PX (F := F) .acc p (srow k p) (cn k))
  else PT .acc (pe k p) (srow k p) (cn k) fullShare (vG x)

/-- What the copy's departure hands back to `c`. -/
def sendPay (k : Fin 42) (c : Dev nD) : sProp 𝕄 :=
  if Rs k then iprop(emp) else PT .acc c (srow k c) (cn k) (cp k).sh (vG x)

def cellPay (c : Dev nD) : Option (Bool × Fin 42) → sProp 𝕄
  | none => iprop(emp)
  | some (false, k) => sendPay x k c
  | some (true, k) => recvPay x k (pe k c)

def cellAmt : Option (Bool × Fin 42) → ℕ
  | none => 1
  | some (_, k) => N k

/-- One round: a barrier cell has five duties of one unit, one per peer; a copy's cell one, of the copy's credit. -/
def Rd : Rounds.Schedule (GSem nD τ sig) (Fin 5) 𝕄 where
  duties g r := if r = 0 ∧ g.1.2 = .tc then
      match g.2 with
      | .reg s => if s = barS then Finset.univ else ∅
      | .dma s => if (dec s).isSome then {0} else ∅
    else ∅
  unitless _ := False
  amount g _ _ := match g.2 with
    | .reg _ => 1
    | .dma s => cellAmt (dec s)
  payload g _ d := match g.2 with
    | .reg _ => barPay g.1.1 d
    | .dma s => cellPay x g.1.1 (dec s)
  amount_pos g _ _ _ := by
    rcases g.2 with s | s
    · exact Nat.one_pos
    · show 0 < cellAmt (dec s)
      rcases dec s with - | ⟨-, k⟩
      · exact Nat.one_pos
      · exact N_pos k

omit [FloatOps F] in
instance land_storable (c : Dev nD) (k : Fin 42) : BI.Storable (upEmb : UEmb _ 𝕄) (land (F := F) c k) := by
  unfold land; split <;> infer_instance

omit [FloatOps F] in
instance barPay_storable (c : Dev nD) (i : Fin 5) : BI.Storable (upEmb : UEmb _ 𝕄) (barPay (F := F) c i) := by
  unfold barPay; infer_instance

instance recvPay_storable (k : Fin 42) (p : Dev nD) : BI.Storable (upEmb : UEmb _ 𝕄) (recvPay x k p) := by
  unfold recvPay; split <;> infer_instance

instance sendPay_storable (k : Fin 42) (c : Dev nD) : BI.Storable (upEmb : UEmb _ 𝕄) (sendPay x k c) := by
  unfold sendPay; split <;> infer_instance

instance cellPay_storable (c : Dev nD) (o) : BI.Storable (upEmb : UEmb _ 𝕄) (cellPay x c o) := by
  unfold cellPay; split <;> infer_instance

instance Rd_storable (g : GSem nD τ sig) (r : ℕ) (d : Fin 5) : BI.Storable (upEmb : UEmb _ 𝕄) ((Rd x).payload g r d) := by
  show BI.Storable upEmb (match g.2 with | .reg _ => barPay g.1.1 d | .dma s => cellPay x g.1.1 (dec s))
  split <;> infer_instance

omit [FloatOps F] in
/-- A family held part by part, the parts those of a function's values, is the family. -/
theorem bigSep_parts {I J : Type} [Fintype I] [Fintype J] [DecidableEq J] (f : I → J) (Φ : I → sProp 𝕄) :
    (bigSep Finset.univ fun j => bigSep (Finset.univ.filter fun i => f i = j) Φ) = bigSep Finset.univ Φ := by
  have h1 : ∀ j, bigSep (Finset.univ.filter fun i => f i = j) Φ = bigSep Finset.univ fun i => if f i = j then Φ i else iprop(emp) :=
    fun j => bigSep_filter _ _ _
  rw [bigSep_congr fun j _ => h1 j, bigSep_univ_comm]
  refine bigSep_congr fun i _ => ?_
  refine (bigSep_filter Finset.univ (fun j => f i = j) (fun _ => Φ i)).symm.trans ?_
  rw [Finset.filter_eq, if_pos (Finset.mem_univ _), bigSep_singleton]

section Sched
variable (c : Dev nD) (k : Fin 42) (d : Fin 5)

theorem duties_bar : (Rd x).duties (barCell c) 0 = Finset.univ := by
  dsimp only [Rd]; rw [if_pos ⟨rfl, rfl⟩]; exact if_pos rfl
theorem duties_send : (Rd x).duties (sendCell k c) 0 = {0} := by
  dsimp only [Rd]; rw [if_pos ⟨rfl, rfl⟩, dec_ssem]; rfl
theorem duties_recv : (Rd x).duties (recvCell k c) 0 = {0} := by
  dsimp only [Rd]; rw [if_pos ⟨rfl, rfl⟩, dec_rsem]; rfl
theorem duties_later (g : GSem nD τ sig) : ∀ r, 1 ≤ r → (Rd x).duties g r = ∅ :=
  fun r hr => by dsimp only [Rd]; rw [if_neg fun h => by omega]

theorem amount_bar : (Rd x).amount (barCell c) 0 d = 1 := rfl
theorem amount_send : (Rd x).amount (sendCell k c) 0 d = N k := by dsimp only [Rd]; rw [dec_ssem]; rfl
theorem amount_recv : (Rd x).amount (recvCell k c) 0 d = N k := by dsimp only [Rd]; rw [dec_rsem]; rfl

theorem expect_bar : (Rd x).expect (barCell c) 0 = 5 := by
  unfold Schedule.expect Schedule.amountOf
  rw [duties_bar, Finset.sum_congr rfl fun d _ => amount_bar x c d, Finset.sum_const, Finset.card_univ, Fintype.card_fin, smul_eq_mul]
theorem expect_send : (Rd x).expect (sendCell k c) 0 = N k := by
  unfold Schedule.expect Schedule.amountOf; rw [duties_send, Finset.sum_singleton, amount_send]
theorem expect_recv : (Rd x).expect (recvCell k c) 0 = N k := by
  unfold Schedule.expect Schedule.amountOf; rw [duties_recv, Finset.sum_singleton, amount_recv]

theorem payload_bar : (Rd x).payload (barCell c) 0 d = barPay c d := rfl
theorem payload_send : (Rd x).payload (sendCell k c) 0 d = sendPay x k c := by dsimp only [Rd]; rw [dec_ssem]; rfl
theorem payload_recv : (Rd x).payload (recvCell k c) 0 d = recvPay x k (pe k c) := by dsimp only [Rd]; rw [dec_rsem]; rfl

theorem rest_bar : bigSep ((Rd x).duties (barCell c) 0 \ ∅) (fun d => (Rd x).payload (barCell c) 0 d)
    = bigSep Finset.univ fun k => iprop(land (F := F) c k ∗ reached ER (recvCell k (pe k c)) 0) := by
  rw [Finset.sdiff_empty, duties_bar]
  refine .trans (bigSep_congr fun d _ => ?_) (bigSep_parts (fun k => (cp k).pi) _)
  rfl
theorem rest_send : bigSep ((Rd x).duties (sendCell k c) 0 \ ∅) (fun d => (Rd x).payload (sendCell k c) 0 d) = sendPay x k c := by
  rw [Finset.sdiff_empty, duties_send, bigSep_singleton, payload_send]
theorem rest_recv : bigSep ((Rd x).duties (recvCell k c) 0 \ ∅) (fun d => (Rd x).payload (recvCell k c) 0 d) = recvPay x k (pe k c) := by
  rw [Finset.sdiff_empty, duties_recv, bigSep_singleton, payload_recv]

end Sched

/-! ## What a core owes, and the levels -/

/-- The copy that has `m` copies after it. -/
def kk (m : ℕ) : Fin 42 := ⟨(41 - m) % 42, Nat.mod_lt _ (by decide)⟩

/-- What a core with `m` copies left to start owes their receivers. -/
def Oc (c : Dev nD) : ℕ → CellTallies nD τ sig Unit
  | 0 => 0
  | m + 1 => Oc c m + tallyAt (recvCell (kk m) (pe (kk m) c)) () (N (kk m))

/-- What a core owes with `j` signals left too. -/
def Ob (c : Dev nD) : ℕ → CellTallies nD τ sig Unit
  | 0 => Oc c 42
  | j + 1 => Ob c j + tallyAt (barCell (pr ⟨(4 - j) % 5, Nat.mod_lt _ (by decide)⟩ c)) () 1

def L (g : GSem nD τ sig) : Finset Unit := if g.1.2 = .tc then {()} else ∅
/-- Barrier cells at 1, a copy's landing above by its order, all other cells at 0. -/
def lv (g : GSem nD τ sig) (_ : Unit) : ℕ := match g.2 with
  | .reg _ => 1
  | .dma s => match dec s with
    | some (true, k) => 2 + k.val
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_send (k : Fin 42) (c : Dev nD) : lv (sendCell k c) () = 0 := by dsimp only [lv]; rw [dec_ssem]
theorem lv_recv (k : Fin 42) (c : Dev nD) : lv (recvCell k c) () = 2 + k.val := by dsimp only [lv]; rw [dec_rsem]

theorem Oc_pos {c : Dev nD} {m : ℕ} {g : GSem nD τ sig} {u : Unit} (h : 0 < Oc c m g u) :
    ∃ j < m, g = recvCell (kk j) (pe (kk j) c) := by
  induction m with
  | zero => exact absurd h (Nat.lt_irrefl 0)
  | succ m ih =>
    unfold Oc at h
    rw [Pi.add_apply, Finsupp.add_apply, tallyAt_apply] at h
    by_cases hg : g = recvCell (kk m) (pe (kk m) c) ∧ u = ()
    · exact ⟨m, Nat.lt_succ_self m, hg.1⟩
    · rw [if_neg hg, Nat.add_zero] at h
      obtain ⟨j, hj, e⟩ := ih h
      exact ⟨j, Nat.lt_succ_of_lt hj, e⟩

theorem Ob_pos {c : Dev nD} {m : ℕ} {g : GSem nD τ sig} {u : Unit} (h : 0 < Ob c m g u) :
    (∃ j < 42, g = recvCell (kk j) (pe (kk j) c)) ∨ ∃ d, g = barCell d := by
  induction m with
  | zero => exact .inl (Oc_pos h)
  | succ m ih =>
    unfold Ob at h
    rw [Pi.add_apply, Finsupp.add_apply, tallyAt_apply] at h
    split at h
    next hg => exact .inr ⟨_, hg.1⟩
    next hg => exact ih (by rwa [Nat.add_zero] at h)

omit [FloatOps F] in
/-- A core may wait on a cell lower than every copy it has left to start. -/
theorem mayWait_Oc (c : Dev nD) (sm : SemLoc sig) (m : ℕ) (hm : m ≤ 42) (h : lv ((c : Thread nD τ), sm) () + m < 44) :
    (levAts L lv : sProp 𝕄) ⊢ MayWait (c : Thread nD τ) sm () (Oc c m) :=
  MayOwe.of_cut (L := L) (lev := lv) (lv ((c : Thread nD τ), sm) ())
    (fun p hp => by rw [Finset.mem_singleton.mp hp, L_tc]; exact Finset.mem_singleton_self _)
    (fun g u hg => by obtain ⟨j, -, rfl⟩ := Oc_pos hg; exact Finset.mem_singleton_self _)
    (fun p hp => by rw [Finset.mem_singleton.mp hp])
    (fun g u hg => by
      obtain ⟨j, hj, rfl⟩ := Oc_pos hg
      rw [lv_recv]; unfold kk
      show _ < 2 + (41 - j) % 42
      omega)

omit [FloatOps F] in
/-- A staging cell may be waited on at any time. -/
theorem mayWait_stage (c : Dev nD) (q : DmaSem sig) (hq : lv ((c : Thread nD τ), .dma q) () = 0) (m : ℕ) :
    (levAts L lv : sProp 𝕄) ⊢ MayWait (c : Thread nD τ) (.dma q) () (Ob c m) :=
  MayOwe.of_cut (L := L) (lev := lv) 0
    (fun p hp => by rw [Finset.mem_singleton.mp hp, L_tc]; exact Finset.mem_singleton_self _)
    (fun g u hg => by rcases Ob_pos hg with ⟨j, -, rfl⟩ | ⟨d, rfl⟩ <;> exact Finset.mem_singleton_self _)
    (fun p hp => by rw [Finset.mem_singleton.mp hp, hq])
    (fun g u hg => by
      rcases Ob_pos hg with ⟨j, -, rfl⟩ | ⟨d, rfl⟩
      · rw [lv_recv]; omega
      · rw [lv_bar]; omega)

end Cert.HierProof
-- ==== Proof.Ops.lean ====
/- One core's ledger of what is left of its copies, and one rule for each effect of a copy: its start towards a landing
   buffer, its start towards the peer's result, the wait for its departure, the wait for its peer's arrival. Each rule is
   stated once, for every copy. -/
module

public import proofs.«01_k».proof.Proof.Plan

@[expose] public section

set_option maxRecDepth 16384

noncomputable section

namespace Cert.HierProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

omit [FloatOps F] in
/-- One member of a family taken out. -/
theorem bigSep_pick {I : Type} [Fintype I] [DecidableEq I] (i : I) {Φ : I → sProp 𝕄} :
    bigSep Finset.univ Φ = iprop(Φ i ∗ bigSep (Finset.univ.erase i) Φ) := bigSep_univ_split i

/-- How many copies are waited for after copy `k`. -/
def pos : Fin 42 → ℕ := ![40, 39, 38, 41, 37, 36, 35, 34, 32, 31, 30, 28, 27, 26, 29, 33, 24, 25, 23, 22, 21, 11, 10, 9, 20,
  16, 19, 18, 17, 8, 7, 6, 14, 15, 13, 5, 4, 3, 12, 2, 1, 0]

/-- With `m` copies left to start: is copy `k` started. -/
def st (m : ℕ) (k : Fin 42) : Bool := decide (m + k.val < 42)
/-- With `n` waits left: is copy `k`'s departure waited for, and its peer's arrival. -/
def sw (n : ℕ) (k : Fin 42) : Bool := decide (n ≤ 2 * pos k + 1)
def rw' (n : ℕ) (k : Fin 42) : Bool := decide (n ≤ 2 * pos k)

theorem pos_inj : ∀ j k : Fin 42, pos j = pos k → j = k := by decide +kernel

/-- A core's part of a copy's start, before the barrier. -/
def pend0 (c : Dev nD) (k : Fin 42) : sProp 𝕄 :=
  iprop(dutyTok ER (sendCell k c) 0 0 ∗ reached ER (sendCell k c) 0 ∗ dutyTok ER (recvCell k (pe k c)) 0 0)

/-- What the start of a copy takes. -/
def pend (c : Dev nD) (k : Fin 42) : sProp 𝕄 :=
  iprop(pend0 (F := F) c k ∗ land (F := F) c k ∗ reached ER (recvCell k (pe k c)) 0)

def sside (c : Dev nD) (m n : ℕ) (k : Fin 42) : sProp 𝕄 :=
  if sw n k then iprop(semVal (sendCell k c) 0)
  else iprop(atPos ER (sendCell k c) 0 ∅ 0 ∗ if st m k then cred (tallyAt (sendCell k c) () (N k)) else iprop(emp))

def rside (c : Dev nD) (n : ℕ) (k : Fin 42) : sProp 𝕄 :=
  if rw' n k then iprop(semVal (recvCell k c) 0)
  else iprop(atPos ER (recvCell k c) 0 ∅ 0 ∗ cred (tallyAt (recvCell k c) () (N k)))

/-- A copy's state at its core, `m` copies left to start and `n` waits left. -/
def item (c : Dev nD) (m n : ℕ) (k : Fin 42) : sProp 𝕄 :=
  iprop((if st m k then iprop(emp) else pend (F := F) c k) ∗ sside (F := F) c m n k ∗ rside (F := F) c n k)

/-- The ledger. -/
def Led (c : Dev nD) (m n : ℕ) : sProp 𝕄 :=
  iprop((∃ W, owes (c : Thread nD τ) (Oc c m) W) ∗ bigSep Finset.univ fun k => item (F := F) c m n k)

omit [FloatOps F] in
theorem item_start (c : Dev nD) (m n : ℕ) (j : Fin 42) (hm : m < 42) (h : j ≠ kk m) : item (F := F) c (m + 1) n j = item c m n j := by
  have e : st (m + 1) j = st m j := by
    have hj := j.isLt
    have : j.val ≠ (41 - m) % 42 := fun e => h (Fin.ext e)
    unfold st; rw [decide_eq_decide]; omega
  unfold item sside; rw [e]

omit [FloatOps F] in
theorem item_wait (c : Dev nD) (m n : ℕ) (j : Fin 42) (h : n ≠ 2 * pos j + 1) (h' : n ≠ 2 * pos j) :
    item (F := F) c m (n + 1) j = item c m n j := by
  have e : sw (n + 1) j = sw n j := by unfold sw; rw [decide_eq_decide]; omega
  have e' : rw' (n + 1) j = rw' n j := by unfold rw'; rw [decide_eq_decide]; omega
  unfold item sside rside; rw [e, e']

omit [FloatOps F] in
/-- The next copy's start taken out of the ledger. -/
theorem Led_start (c : Dev nD) (m n : ℕ) (hm : m < 42) (hs : sw n (kk m) = false) :
    (Led (F := F) c (m + 1) n) ⊢ iprop((∃ W, owes (c : Thread nD τ) (Oc c (m + 1)) W) ∗ pend (F := F) c (kk m)
      ∗ (((∃ W, owes (c : Thread nD τ) (Oc c m) W) ∗ cred (tallyAt (sendCell (kk m) c) () (N (kk m)))) -∗ Led (F := F) c m n)) := by
  have e1 : st (m + 1) (kk m) = false := by unfold st kk; rw [decide_eq_false_iff_not]; show ¬ (_ + (41 - m) % 42 < 42); omega
  have e2 : st m (kk m) = true := by unfold st kk; rw [decide_eq_true_iff]; show _ + (41 - m) % 42 < 42; omega
  unfold Led
  rw [bigSep_pick (kk m), bigSep_pick (kk m) (Φ := fun k => item (F := F) c m n k),
    bigSep_congr fun j hj => item_start (F := F) c m n j hm (Finset.ne_of_mem_erase hj)]
  unfold item sside
  rw [e1, e2, hs]
  simp only [Bool.false_eq_true, if_true, if_false]
  iintro ⟨Ho, ⟨Hp, ⟨Ha, -⟩, Hr⟩, Hrest⟩
  isplitl [Ho]; · iexact Ho
  isplitl [Hp]; · iexact Hp
  iintro ⟨Ho, Hc⟩
  isplitl [Ho]; · iexact Ho
  isplitr [Hrest]
  · isplitr; · iempintro
    isplitr [Hr]
    · isplitl [Ha]; · iexact Ha
      iexact Hc
    iexact Hr
  iexact Hrest

omit [FloatOps F] in
/-- The next wait, for a departure, taken out of the ledger. -/
theorem Led_sw (c : Dev nD) (m n : ℕ) (k : Fin 42) (hn : n = 2 * pos k + 1) (hs : st m k = true) :
    (Led (F := F) c m (n + 1)) ⊢ iprop((∃ W, owes (c : Thread nD τ) (Oc c m) W) ∗ atPos ER (sendCell k c) 0 ∅ 0
      ∗ cred (tallyAt (sendCell k c) () (N k))
      ∗ (((∃ W, owes (c : Thread nD τ) (Oc c m) W) ∗ semVal (sendCell k c) 0) -∗ Led (F := F) c m n)) := by
  have e1 : sw (n + 1) k = false := by unfold sw; rw [decide_eq_false_iff_not]; omega
  have e2 : sw n k = true := by unfold sw; rw [decide_eq_true_iff]; omega
  have e3 : rw' (n + 1) k = rw' n k := by unfold rw'; rw [decide_eq_decide]; omega
  have ho : ∀ j ∈ Finset.univ.erase k, item (F := F) c m (n + 1) j = item c m n j := fun j hj =>
    item_wait c m n j (fun e => Finset.ne_of_mem_erase hj (pos_inj j k (by omega))) (by omega)
  unfold Led
  rw [bigSep_pick k, bigSep_pick k (Φ := fun k => item (F := F) c m n k), bigSep_congr ho]
  unfold item sside rside
  rw [e1, e2, e3, hs]
  simp only [Bool.false_eq_true, if_true, if_false]
  iintro ⟨Ho, ⟨-, ⟨Ha, Hc⟩, Hr⟩, Hrest⟩
  isplitl [Ho]; · iexact Ho
  isplitl [Ha]; · iexact Ha
  isplitl [Hc]; · iexact Hc
  iintro ⟨Ho, Hz⟩
  isplitl [Ho]; · iexact Ho
  isplitr [Hrest]
  · isplitr; · iempintro
    isplitl [Hz]; · iexact Hz
    iexact Hr
  iexact Hrest

omit [FloatOps F] in
/-- The next wait, for an arrival, taken out of the ledger. -/
theorem Led_rw (c : Dev nD) (m n : ℕ) (k : Fin 42) (hn : n = 2 * pos k) :
    (Led (F := F) c m (n + 1)) ⊢ iprop((∃ W, owes (c : Thread nD τ) (Oc c m) W) ∗ atPos ER (recvCell k c) 0 ∅ 0
      ∗ cred (tallyAt (recvCell k c) () (N k))
      ∗ (((∃ W, owes (c : Thread nD τ) (Oc c m) W) ∗ semVal (recvCell k c) 0) -∗ Led (F := F) c m n)) := by
  have e1 : rw' (n + 1) k = false := by unfold rw'; rw [decide_eq_false_iff_not]; omega
  have e2 : rw' n k = true := by unfold rw'; rw [decide_eq_true_iff]; omega
  have e3 : sw (n + 1) k = sw n k := by unfold sw; rw [decide_eq_decide]; omega
  have ho : ∀ j ∈ Finset.univ.erase k, item (F := F) c m (n + 1) j = item c m n j := fun j hj =>
    item_wait c m n j (by omega) (fun e => Finset.ne_of_mem_erase hj (pos_inj j k (by omega)))
  unfold Led
  rw [bigSep_pick k, bigSep_pick k (Φ := fun k => item (F := F) c m n k), bigSep_congr ho]
  unfold item sside rside
  rw [e1, e2, e3]
  simp only [Bool.false_eq_true, if_true, if_false]
  iintro ⟨Ho, ⟨Hp, Hs, ⟨Ha, Hc⟩⟩, Hrest⟩
  isplitl [Ho]; · iexact Ho
  isplitl [Ha]; · iexact Ha
  isplitl [Hc]; · iexact Hc
  iintro ⟨Ho, Hz⟩
  isplitl [Ho]; · iexact Ho
  isplitr [Hrest]
  · isplitl [Hp]; · iexact Hp
    isplitl [Hs]; · iexact Hs
    iexact Hz
  iexact Hrest

/-! ## The cells' invariants -/

/-- A core's cells: its barrier's, and its copies'. -/
def cellAt : Dev nD × Option (Bool × Fin 42) → GSem nD τ sig
  | (c, none) => barCell c
  | (c, some (false, k)) => sendCell k c
  | (c, some (true, k)) => recvCell k c

variable (x : Dev nD → Fld F) (K : Dev nD × Option (Bool × Fin 42) → ℕ)

/-- Every cell's invariant, and the levels. -/
def Recs : sProp 𝕄 :=
  iprop((bigSep Finset.univ fun i => cellInv ER (Rd x) (K i) (cellAt i)) ∗ levAts L lv)

instance Recs_persistent : Persistent (Recs x K) := by unfold Recs; infer_instance

theorem Recs_inv (i : Dev nD × Option (Bool × Fin 42)) : (Recs x K) ⊢ cellInv ER (Rd x) (K i) (cellAt i) := by
  unfold Recs
  exact (sep_mono_left (bigSep_elim (Finset.mem_univ i))).trans (by iintro ⟨H, -⟩; iexact H)
theorem Recs_lev : (Recs x K) ⊢ (levAts L lv : sProp 𝕄) := by
  unfold Recs; iintro ⟨-, H⟩; iexact H

/-- The source of a copy, ready to go. -/
def Src (c : Dev nD) (k : Fin 42) : sProp 𝕄 := PT .acc c (srow k c) (cn k) fullShare (ctv x (cp k).ct c)
/-- What landed in `c`'s landing buffer by copy `k`. -/
def In (c : Dev nD) (k : Fin 42) : sProp 𝕄 :=
  PT (cp k).b c (drow k (pe k c)) (cn k) fullShare (shift (srow k (pe k c)) (drow k (pe k c)) (ctv x (cp k).ct (pe k c)))
/-- The peer's rows copy `k` was copied from. -/
def Ln (c : Dev nD) (k : Fin 42) : sProp 𝕄 := PX .acc (pe k c) (srow k (pe k c)) (cn k)
/-- What landed in `c`'s result by copy `k`. -/
def Gt (c : Dev nD) (k : Fin 42) : sProp 𝕄 := PT .acc c (srow k (pe k c)) (cn k) fullShare (vG x)
/-- The share of the result's rows that copy `k` reads. -/
def Sh (c : Dev nD) (k : Fin 42) : sProp 𝕄 := PT .acc c (srow k c) (cn k) (cp k).sh (vG x)

abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem amt_eq (k : Fin 42) (b : Bf) (nn : ℕ) (hn : cn k = nn) (off : Fin 2 → ℕ) (inb) (s : DmaSem sig) :
    (ms b nn off inb).view.amount (.dma s) = N k := by subst hn; exact cr_eq _ _ _ _

section Rules
variable (c : Dev nD) (k : Fin 42)

/-- The start of a copy towards a landing buffer. -/
theorem wp_rs {α : Type} {Q₁ : α → sProp 𝕄}
    {kont : PUnit → Prog (TpuEff nD τ sig (Elt F) Λ₀ .tc) α} (m n : ℕ) (hm : m < 42) (hk : kk m = k) (hr : Rs k) (hs : sw n k = false) {dv : Dev nD} (hdv : dv = pe k c)
    {sS sR : DmaSem sig} (hS : sS = ssem k) (hR : sR = rsem k) {offs offd : Fin 2 → ℕ} (hos : offs = ![srow k c, 0])
    (hod : offd = ![drow k c, 0]) (b : Bf) (hb : (cp k).b = b) (nn : ℕ) (hn : cn k = nn) {inbs inbd hsc h1 h2 h3} :
    iprop(Recs x K ∗ Led c (m + 1) n ∗ Src x c k) ⊢ iprop((Led c m n -∗ WP c (kont ⟨⟩) Q₁)
      -∗ WP c (.op (.enqueueDma (ms .acc nn offs inbs) (.remote (Dev.tc dv) (ms b nn offd inbd) (.dma sS) hsc) (.dma sR) h1 h2 h3) kont) Q₁) := by
  subst hdv hS hR hb hn hk
  have hland : land (F := F) c (kk m) = PX (cp (kk m)).b (pe (kk m) c) (drow (kk m) c) (cn (kk m)) := if_pos hr
  iintro ⟨#HR, HL, Hs⟩ Hk
  ihave H := (Led_start c m n hm hs) $$ HL
  unfold pend pend0
  rw [hland]
  icases H with ⟨⟨%W, Ho⟩, ⟨⟨Hts, Hrs, Htr⟩, Hl, Hrr⟩, Hback⟩
  unfold PX
  icases Hl with ⟨%g, Hl⟩
  ihave #HI1 := (Recs_inv x K (c, some (false, kk m))) $$ HR
  ihave #HI2 := (Recs_inv x K (pe (kk m) c, some (true, kk m))) $$ HR
  unfold Src PT
  rw [← ms_set .acc hos inbs, ← ms_set (cp (kk m)).b hod inbd]
  iapply (Rounds.wp_send_landing_pointsTo 𝒱₀ ER (Rd x) (c : Thread nD τ) none (c' := (pe (kk m) c : Thread nD τ)) (dst := ms (cp (kk m)).b (cn (kk m)) offd inbd) (sem := .dma (rsem (kk m)))
    (κ₁ := K (c, some (false, kk m))) (κ₂ := K (pe (kk m) c, some (true, kk m))) (fd := cont _ g) (r₁ := 0) (r₂ := 0) (d₁ := 0) (d₂ := 0)
    (by rw [duties_send]; exact Finset.mem_singleton_self _) (by rw [duties_recv]; exact Finset.mem_singleton_self _)
    () () (N (kk m)) (amt_eq _ _ _ rfl offd inbd _) (amount_send x c (kk m) 0) (amount_recv x (pe (kk m) c) (kk m) 0) (Oc c m) rfl (W := W)
    (by rw [payload_send]; unfold sendPay; rw [if_pos hr])
    (by
      rw [payload_recv, pe_pe]; unfold recvPay; rw [if_pos hr]
      rw [ms_read .acc hos inbs, ms_set .acc hos inbs, ms_set (cp (kk m)).b hod inbd]
      refine BIClass.sep_mono ?_ ?_
      · unfold PT
        exact Entails.of_eq (pointsTo_congr (ms_write (cp (kk m)).b hod inbd _ _ _ (blk_shift _ _ _ _).symm))
      · unfold PX PT; iintro H; iexists _; iexact H)) $$ [Hs Hl Ho Hts Hrs Htr Hrr]
  · isplitr; · iexact HI1
    isplitr; · iexact HI2
    isplitl [Hs]; · iexact Hs
    isplitl [Hl]; · iexact Hl
    isplitl [Ho]; · iexact Ho
    isplitl [Hts]; · iexact Hts
    isplitl [Hrs]; · iexact Hrs
    isplitl [Htr]; · iexact Htr
    iexact Hrr
  iintro ⟨Hc, Ho⟩
  iapply Hk
  iapply Hback
  isplitl [Ho]; · iexists W; iexact Ho
  iexact Hc

/-- The start of a copy towards the peer's result, the peer's rows at hand. -/
theorem wp_ag {α : Type} {Q₁ : α → sProp 𝕄}
    {kont : PUnit → Prog (TpuEff nD τ sig (Elt F) Λ₀ .tc) α} (m n : ℕ) (hm : m < 42) (hk : kk m = k) (hr : ¬ Rs k) (hs : sw n k = false) {dv : Dev nD} (hdv : dv = pe k c)
    {sS sR : DmaSem sig} (hS : sS = ssem k) (hR : sR = rsem k) {offs offd : Fin 2 → ℕ} (hos : offs = ![srow k c, 0])
    (hod : offd = ![srow k c, 0]) (nn : ℕ) (hn : cn k = nn) {inbs inbd hsc h1 h2 h3} :
    iprop(Recs x K ∗ Led c (m + 1) n ∗ Sh x c k ∗ PX (F := F) .acc (pe k c) (srow k c) (cn k)) ⊢ iprop((Led c m n -∗ WP c (kont ⟨⟩) Q₁)
      -∗ WP c (.op (.enqueueDma (ms .acc nn offs inbs) (.remote (Dev.tc dv) (ms .acc nn offd inbd) (.dma sS) hsc) (.dma sR) h1 h2 h3) kont) Q₁) := by
  subst hdv hS hR hn hk
  iintro ⟨#HR, HL, Hs, Hl⟩ Hk
  ihave H := (Led_start c m n hm hs) $$ HL
  unfold pend pend0
  icases H with ⟨⟨%W, Ho⟩, ⟨⟨Hts, Hrs, Htr⟩, -, Hrr⟩, Hback⟩
  unfold PX
  icases Hl with ⟨%g, Hl⟩
  ihave #HI1 := (Recs_inv x K (c, some (false, kk m))) $$ HR
  ihave #HI2 := (Recs_inv x K (pe (kk m) c, some (true, kk m))) $$ HR
  ihave Hl := (Entails.of_eq (show PT .acc (pe (kk m) c) (srow (kk m) c) (cn (kk m)) fullShare g
    = (((mr .acc).view.loc (pe (kk m) c : Thread nD τ)) ↦[(ms .acc (cn (kk m)) offd inbd).view.set]{fullShare} cont .acc g : sProp 𝕄) by
      unfold PT; rw [ms_set .acc hod inbd])) $$ Hl
  ihave Hs := (Entails.of_eq (show Sh x c (kk m)
    = (((mr .acc).view.loc (c : Thread nD τ)) ↦[(ms .acc (cn (kk m)) offs inbs).view.set]{(cp (kk m)).sh} cont .acc (vG x) : sProp 𝕄) by
      unfold Sh PT; rw [ms_set .acc hos inbs])) $$ Hs
  iapply (Rounds.wp_send_pointsTo 𝒱₀ ER (Rd x) (c : Thread nD τ) none (c' := (pe (kk m) c : Thread nD τ)) (dst := ms .acc (cn (kk m)) offd inbd) (sem := .dma (rsem (kk m)))
    (κ₁ := K (c, some (false, kk m))) (κ₂ := K (pe (kk m) c, some (true, kk m))) (fd := cont _ g) (r₁ := 0) (r₂ := 0) (d₁ := 0) (d₂ := 0)
    (by rw [duties_send]; exact Finset.mem_singleton_self _) (by rw [duties_recv]; exact Finset.mem_singleton_self _)
    () () (N (kk m)) (amt_eq _ _ _ rfl offd inbd _) (amount_send x c (kk m) 0) (amount_recv x (pe (kk m) c) (kk m) 0) (Oc c m) rfl (W := W)
    (by rw [payload_send]; unfold sendPay; rw [if_neg hr, ms_set .acc hos inbs]; unfold PT; exact BI.Entails.refl _)
    (by
      rw [payload_recv, pe_pe]; unfold recvPay; rw [if_neg hr]
      rw [ms_read .acc hos inbs, ms_set .acc hod inbd]
      unfold PT
      exact Entails.of_eq (pointsTo_congr (ms_write .acc hod inbd _ _ _ rfl)))) $$ [Hs Hl Ho Hts Hrs Htr Hrr]
  · isplitr; · iexact HI1
    isplitr; · iexact HI2
    isplitl [Hs]; · iexact Hs
    isplitl [Hl]; · iexact Hl
    isplitl [Ho]; · iexact Ho
    isplitl [Hts]; · iexact Hts
    isplitl [Hrs]; · iexact Hrs
    isplitl [Htr]; · iexact Htr
    iexact Hrr
  iintro ⟨Hc, Ho⟩
  iapply Hk
  iapply Hback
  isplitl [Ho]; · iexists W; iexact Ho
  iexact Hc

/-- The wait for a copy's departure. -/
theorem wp_ws {α : Type} {Q₁ : α → sProp 𝕄}
    {kont : PUnit → Prog (TpuEff nD τ sig (Elt F) Λ₀ .tc) α} (m n : ℕ) (hm : m ≤ 42) (hn : n = 2 * pos k + 1) (hs : st m k = true)
    {sS : DmaSem sig} (hS : sS = ssem k) (b : Bf) (nn : ℕ) (hnn : cn k = nn) {off inb} {sp : Space} {src : Memref sig .tc sp (rs nn) .bf16} {h1 h2} :
    iprop(Recs x K ∗ Led c m (n + 1)) ⊢ iprop((iprop(Led c m n ∗ sendPay x k c) -∗ WP c (kont ⟨⟩) Q₁)
      -∗ WP c (.op (.waitDma2 sS src (ms b nn off inb) h1 h2) kont) Q₁) := by
  subst hS hnn
  iintro ⟨#HR, HL⟩ Hk
  ihave H := (Led_sw c m n k hn hs) $$ HL
  icases H with ⟨⟨%W, Ho⟩, Ha, Hc, Hback⟩
  ihave #HI1 := (Recs_inv x K (c, some (false, k))) $$ HR
  ihave #Hlev := (Recs_lev x K) $$ HR
  iapply (Rounds.wp_wait_rest_token 𝒱₀ ER (Rd x) (c : Thread nD τ) none (κ := K (c, some (false, k)))
      (wpE_waitDma2_eq 𝒱₀ (c : Thread nD τ) none Set.univ) (Set.mem_univ _) () (O := Oc c m) (W := W) (R := 0) (m := 0) (T := ∅)
      (by rw [Nat.zero_add, cr_eq]; exact (expect_send x c k).symm)) $$ [Hc Ho Ha]
  · isplitr; · iexact HI1
    isplitl [Hc]; · rw [cr_eq]; iexact Hc
    isplitl [Ho]; · iexact Ho
    isplitr; · iapply (mayWait_Oc c _ m hm (by rw [lv_send]; omega)); iexact Hlev
    iexact Ha
  iintro ⟨Ho, Ha, -, Hp⟩
  ihave Hp := (Entails.of_eq (rest_send x c k)) $$ Hp
  imod (Rounds.cell_close ER (Rd x) (Set.mem_univ (K (c, some (false, k)))) (fun h => h) (R := 0 + 1) (duties_later x (sendCell k c))) $$ [Ha] with Hz
  · isplitr; · iexact HI1
    iexact Ha
  iapply Hk
  isplitr [Hp]
  · iapply Hback
    isplitl [Ho]; · iexists _; iexact Ho
    iexact Hz
  iexact Hp

/-- The wait for the peer's arrival. -/
theorem wp_wr {α : Type} {Q₁ : α → sProp 𝕄}
    {kont : PUnit → Prog (TpuEff nD τ sig (Elt F) Λ₀ .tc) α} (m n : ℕ) (hm : k.val + m < 42) (hn : n = 2 * pos k)
    {sR : DmaSem sig} (hR : sR = rsem k) (b : Bf) (nn : ℕ) (hnn : cn k = nn) {off inb} {sp : Space} {src : Memref sig .tc sp (rs nn) .bf16} {h1 h2} :
    iprop(Recs x K ∗ Led c m (n + 1)) ⊢ iprop((iprop(Led c m n ∗ recvPay x k (pe k c)) -∗ WP c (kont ⟨⟩) Q₁)
      -∗ WP c (.op (.waitDma2 sR src (ms b nn off inb) h1 h2) kont) Q₁) := by
  subst hR hnn
  iintro ⟨#HR, HL⟩ Hk
  ihave H := (Led_rw c m n k hn) $$ HL
  icases H with ⟨⟨%W, Ho⟩, Ha, Hc, Hback⟩
  ihave #HI1 := (Recs_inv x K (c, some (true, k))) $$ HR
  ihave #Hlev := (Recs_lev x K) $$ HR
  iapply (Rounds.wp_wait_rest_token 𝒱₀ ER (Rd x) (c : Thread nD τ) none (κ := K (c, some (true, k)))
      (wpE_waitDma2_eq 𝒱₀ (c : Thread nD τ) none Set.univ) (Set.mem_univ _) () (O := Oc c m) (W := W) (R := 0) (m := 0) (T := ∅)
      (by rw [Nat.zero_add, cr_eq]; exact (expect_recv x c k).symm)) $$ [Hc Ho Ha]
  · isplitr; · iexact HI1
    isplitl [Hc]; · rw [cr_eq]; iexact Hc
    isplitl [Ho]; · iexact Ho
    isplitr; · iapply (mayWait_Oc c _ m (by omega) (by rw [lv_recv]; omega)); iexact Hlev
    iexact Ha
  iintro ⟨Ho, Ha, -, Hp⟩
  ihave Hp := (Entails.of_eq (rest_recv x c k)) $$ Hp
  imod (Rounds.cell_close ER (Rd x) (Set.mem_univ (K (c, some (true, k)))) (fun h => h) (R := 0 + 1) (duties_later x (recvCell k c))) $$ [Ha] with Hz
  · isplitr; · iexact HI1
    iexact Ha
  iapply Hk
  isplitr [Hp]
  · iapply Hback
    isplitl [Ho]; · iexists _; iexact Ho
    iexact Hz
  iexact Hp

theorem recv_rs (hr : Rs k) : recvPay x k (pe k c) = iprop(In x c k ∗ Ln (F := F) c k) := by
  unfold recvPay; rw [if_pos hr]; unfold In Ln; rw [pe_pe]
theorem recv_ag (hr : ¬ Rs k) : recvPay x k (pe k c) = Gt x c k := by
  unfold recvPay; rw [if_neg hr, pe_pe]; rfl
theorem send_rs (hr : Rs k) : sendPay x k c = iprop(emp) := if_pos hr
theorem send_ag (hr : ¬ Rs k) : sendPay x k c = Sh x c k := if_neg hr

end Rules

end Cert.HierProof
-- ==== Proof.Geo.lean ====
/- Where the body's slices lie, and which devices it addresses: each table lists what the program computes, copy by copy, and
   is checked against the plan's rows and peers over all devices. -/
module

public import proofs.«01_k».proof.Proof.Ops

@[expose] public section

set_option maxRecDepth 16384

noncomputable section

namespace Cert.HierProof

open Cert.KernelIdeal Cert.KernelIdeal.Gen
open Idealize.ShloMosaic Idealize.ShloMosaic.TcCoe

/-- The five devices signalled. -/
def devB : Fin 5 → Dev nD → ℕ := ![k0_dev1, k0_dev2, k0_dev3, k0_dev4, k0_dev5]
theorem devB_eq : ∀ (i : Fin 5) (c : Dev nD), devB i c = (pr i c).val := by decide +kernel

/-- The device each copy goes to. -/
def devC : Fin 42 → Dev nD → ℕ :=
  ![k0_dev6, k0_dev7, k0_dev8, k0_dev9, k0_dev10, k0_dev11, k0_dev12, k0_dev13, k0_dev14, k0_dev15, k0_dev16, k0_dev17, k0_dev18,
    k0_dev19, k0_dev20, k0_dev21, k0_dev22, k0_dev23, k0_dev24, k0_dev25, k0_dev26, k0_dev27, k0_dev28, k0_dev29, k0_dev30, k0_dev31,
    k0_dev32, k0_dev33, k0_dev34, k0_dev35, k0_dev36, k0_dev37, k0_dev38, k0_dev39, k0_dev40, k0_dev41, k0_dev42, k0_dev43, k0_dev44,
    k0_dev45, k0_dev46, k0_dev47]
theorem devC_eq : ∀ (k : Fin 42) (c : Dev nD), devC k c = (pe k c).val := by decide +kernel

/-- Where each copy's source lies. -/
def offS : Fin 42 → Dev nD → Fin 2 → ℕ :=
  ![k0_off2, k0_off3, k0_off4, k0_off6, k0_off8, k0_off10, k0_off11, k0_off12, k0_off14, k0_off15, k0_off16, k0_off18, k0_off19,
    k0_off20, k0_off23, k0_off27, k0_off33, k0_off37, k0_off38, k0_off39, k0_off40, k0_off44, k0_off44, k0_off44, k0_off44, k0_off44,
    k0_off46, k0_off46, k0_off46, k0_off33, k0_off33, k0_off33, k0_off33, k0_off47, k0_off47, k0_off48, k0_off48, k0_off48, k0_off23,
    k0_off49, k0_off49, k0_off49]
theorem offS_eq : ∀ (k : Fin 42) (c : Dev nD), offS k c = ![srow k c, 0] := by decide +kernel

/-- Where each copy lands: in a landing buffer, or in the peer's result where it lies in the sender's. -/
def offD : Fin 42 → Dev nD → Fin 2 → ℕ :=
  ![fun c => k0_off1 c 0#32, fun c => k0_off1 c 384#32, fun c => k0_off1 c 768#32, k0_off5, k0_off7,
    fun c => k0_off9 c 0#32, fun c => k0_off9 c 384#32, fun c => k0_off9 c 768#32,
    fun c => k0_off13 c 0#32, fun c => k0_off13 c 384#32, fun c => k0_off13 c 768#32,
    fun c => k0_off17 c 0#32, fun c => k0_off17 c 384#32, fun c => k0_off17 c 768#32,
    fun _ => ![256, 0], k0_off26, fun _ => ![192, 0], k0_off36, fun _ => ![0, 0], fun _ => ![32, 0], fun _ => ![64, 0],
    k0_off44, k0_off44, k0_off44, k0_off44, k0_off44, k0_off46, k0_off46, k0_off46, k0_off33, k0_off33, k0_off33, k0_off33,
    k0_off47, k0_off47, k0_off48, k0_off48, k0_off48, k0_off23, k0_off49, k0_off49, k0_off49]
theorem offD_eq : ∀ (k : Fin 42) (c : Dev nD), offD k c = ![if Rs k then drow k c else srow k c, 0] := by decide +kernel

/-- Where a core reads what landed by each copy. -/
def offI : Fin 42 → Dev nD → Fin 2 → ℕ :=
  ![fun c => k0_off25 c 0#32, fun c => k0_off25 c 384#32, fun c => k0_off25 c 768#32, k0_off22, k0_off29,
    fun c => k0_off31 c 0#32, fun c => k0_off31 c 384#32, fun c => k0_off31 c 768#32,
    fun c => k0_off35 c 0#32, fun c => k0_off35 c 384#32, fun c => k0_off35 c 768#32,
    fun c => k0_off42 c 0#32, fun c => k0_off42 c 384#32, fun c => k0_off42 c 768#32,
    fun _ => ![256, 0], k0_off32, fun _ => ![192, 0], k0_off43, fun _ => ![0, 0], fun _ => ![32, 0], fun _ => ![64, 0],
    k0_off44, k0_off44, k0_off44, k0_off44, k0_off44, k0_off44, k0_off44, k0_off44, k0_off44, k0_off44, k0_off44, k0_off44,
    k0_off44, k0_off44, k0_off44, k0_off44, k0_off44, k0_off44, k0_off44, k0_off44, k0_off44]
theorem offI_eq : ∀ (k : Fin 42), Rs k → ∀ (c : Dev nD), offI k c = ![drow k (pe k c), 0] := by decide +kernel

/-- The copy that took from the peer the rows a copy to the result writes there. -/
def lnk : Fin 42 → Fin 42 := ![0, 0, 0, 0, 0, 0, 0, 0, 0, 0, 0, 0, 0, 0, 0, 0, 0, 0, 0, 0, 0, 11, 12, 13, 16, 17, 18, 19, 20, 5, 6, 7, 15,
  14, 4, 8, 9, 10, 3, 0, 1, 2]
theorem lnk_eq : ∀ (k : Fin 42), ¬ Rs k → ∀ c : Dev nD,
    pe (lnk k) c = pe k c ∧ srow (lnk k) (pe (lnk k) c) = srow k c ∧ cn (lnk k) = cn k := by decide +kernel

/-- Where a core sums. -/
def offA : Fin 4 → Dev nD → Fin 2 → ℕ := ![k0_off41, k0_off34, k0_off30, k0_off24]
theorem offA_eq : ∀ (μ : Fin 4) (c : Dev nD), offA μ c = ![rA (fl μ.val c), 0] := by decide +kernel
theorem off41_eq (c : Dev nD) : k0_off41 c = ![rA (fl 0 c), 0] := offA_eq 0 c
theorem off34_eq (c : Dev nD) : k0_off34 c = ![rA (fl 1 c), 0] := offA_eq 1 c
theorem off30_eq (c : Dev nD) : k0_off30 c = ![rA (fl 2 c), 0] := offA_eq 2 c
theorem off24_eq (c : Dev nD) : k0_off24 c = ![rA (fl 3 c), 0] := offA_eq 3 c
theorem off21_eq : ∀ c : Dev nD, k0_off21 c = ![rB (fl 2 c), 0] := by decide +kernel
theorem off28_eq : ∀ c : Dev nD, k0_off28 c = ![rB (fl 0 c), 0] := by decide +kernel
theorem off45_eq : ∀ c : Dev nD, k0_off45 c = ![rQ (fl 0 c), 0] := by decide +kernel

theorem dev_pe (k : Fin 42) (c : Dev nD) (h : devC k c < nD) : (⟨devC k c, h⟩ : Dev nD) = pe k c := Fin.ext (devC_eq k c)
theorem dev_pr (i : Fin 5) (c : Dev nD) (h : devB i c < nD) : (⟨devB i c, h⟩ : Dev nD) = pr i c := Fin.ext (devB_eq i c)

end Cert.HierProof
-- ==== Proof.Step.lean ====
/- The body's arguments, and how its parts follow one another. -/
module

public import proofs.«01_k».proof.Proof.Geo
public import Idealize.ShloMosaic.Lib.Pipeline.Value

@[expose] public section

set_option maxRecDepth 16384

noncomputable section

namespace Cert.HierProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A part at the body's arguments. -/
abbrev ap {β : Type 1} (p : (arg0 : Memref sig .tc .vmem S2048x1024 .bf16) → arg0.IsWhole → (arg1 : Memref sig .tc .vmem S2048x1024 .bf16) → arg1.IsWhole →
    (arg2 : Memref sig .tc .vmem S1152x1024 .bf16) → arg2.IsWhole → (arg3 : Memref sig .tc .vmem S96x1024 .bf16) → arg3.IsWhole →
    (arg4 : Memref sig .tc .vmem S288x1024 .bf16) → arg4.IsWhole → (arg5 : Memref sig .tc .vmem S384x1024 .bf16) → arg5.IsWhole →
    DmaSems sig S2x2x4x3 → DmaSems sig S2x2x4x3 → DmaSems sig S2x2x2x2 → DmaSems sig S2x2x2x2 → β) : β :=
  p (Memref.whole cc0_stg0_0) (Memref.isWhole_whole _) (mr .acc) (Memref.isWhole_whole _) (mr .xyA) (Memref.isWhole_whole _)
    (mr .xyB) (Memref.isWhole_whole _) (mr .zA) (Memref.isWhole_whole _) (mr .zB) (Memref.isWhole_whole _)
    cc0_scratch4 cc0_scratch5 cc0_scratch6 cc0_scratch7

/-- One part, then the rest. -/
theorem seq {c : Dev nD} {α β : Type} {R : sProp 𝕄} {p : Prog (TpuEff nD τ sig (Elt F) Λ₀ .tc) α} {R' : α → sProp 𝕄}
    (h : R ⊢ WP c p R') {k : α → Prog (TpuEff nD τ sig (Elt F) Λ₀ .tc) β} {Q : β → sProp 𝕄} :
    R ⊢ iprop((∀ a, R' a -∗ WP c (k a) Q) -∗ WP c (p >>= k) Q) := by
  have e : WP c (p >>= k) Q = WP c p (fun a => WP c (k a) Q) := wp_bind _ _ _ p k Q
  rw [e]
  exact h.trans (wp_wand _ _ _)

/-- A part's end. -/
theorem fin {c : Dev nD} {α : Type} {a : α} {Q : α → sProp 𝕄} : (Q a) ⊢ WP c (.ret a) Q := by
  unfold WP; rw [wp_ret]; exact fupd_intro

section Rules
variable (x : Dev nD → Fld F) (K : Dev nD × Option (Bool × Fin 42) → ℕ) (c : Dev nD) (k : Fin 42)

theorem srow_pe : srow k (pe k c) = tyr (cp k).ty (fl ((cp k).pm ^^^ (cp k).sm) c) := by
  unfold srow pe; rw [fl_fl _ _ (cp_bounds k).2.1 (cp_bounds k).1]

/-- A start towards a landing buffer. -/
theorem rs' (b : Bf) (nn m n : ℕ) {α : Type} {Q₁ : α → sProp 𝕄} {kont : PUnit → Prog (TpuEff nD τ sig (Elt F) Λ₀ .tc) α}
    {hv inbs inbd hsc h1 h2 h3} (hr : Rs k := by decide) (hk : m < 42 ∧ kk m = k ∧ sw n k = false := by decide)
    (hb : (cp k).b = b := by rfl) (hn : cn k = nn := by rfl) :
    Recs x K ⊢ iprop(Led c (m + 1) n -∗ Src x c k -∗ (Led c m n -∗ WP c (kont ⟨⟩) Q₁)
      -∗ WP c (.op (.enqueueDma (ms .acc nn (offS k c) inbs) (.remote (Dev.tc (⟨devC k c, hv⟩ : Dev nD)) (ms b nn (offD k c) inbd) (.dma (ssem k)) hsc)
        (.dma (rsem k)) h1 h2 h3) kont) Q₁) := by
  iintro #HR HL Hs Hk
  iapply (wp_rs x K c k m n hk.1 hk.2.1 hr hk.2.2 (dev_pe k c hv) rfl rfl (offS_eq k c) ((offD_eq k c).trans (by rw [if_pos hr])) b hb nn hn) $$ [HL Hs]
  · isplitl []
    · iexact HR
    isplitl [HL]
    · iexact HL
    iexact Hs
  iexact Hk

/-- A start towards the peer's result. -/
theorem ag' (j : Fin 42) (nn m n : ℕ) {α : Type} {Q₁ : α → sProp 𝕄} {kont : PUnit → Prog (TpuEff nD τ sig (Elt F) Λ₀ .tc) α}
    {hv inbs inbd hsc h1 h2 h3} (hr : ¬ Rs k := by decide) (hk : m < 42 ∧ kk m = k ∧ sw n k = false := by decide)
    (hj : lnk k = j := by rfl) (hn : cn k = nn := by rfl) :
    Recs x K ⊢ iprop(Led c (m + 1) n -∗ Sh x c k -∗ Ln c j -∗ (Led c m n -∗ WP c (kont ⟨⟩) Q₁)
      -∗ WP c (.op (.enqueueDma (ms .acc nn (offS k c) inbs) (.remote (Dev.tc (⟨devC k c, hv⟩ : Dev nD)) (ms .acc nn (offD k c) inbd) (.dma (ssem k)) hsc)
        (.dma (rsem k)) h1 h2 h3) kont) Q₁) := by
  subst hj
  obtain ⟨e1, e2, e3⟩ := lnk_eq k hr c
  unfold Ln; rw [e2, e3, e1]
  iintro #HR HL Hs Hl Hk
  iapply (wp_ag x K c k m n hk.1 hk.2.1 hr hk.2.2 (dev_pe k c hv) rfl rfl (offS_eq k c) ((offD_eq k c).trans (by rw [if_neg hr])) nn hn) $$ [HL Hs Hl]
  · isplitl []
    · iexact HR
    isplitl [HL]
    · iexact HL
    isplitl [Hs]
    · iexact Hs
    iexact Hl
  iexact Hk

/-- The wait for a departure towards a landing buffer. -/
theorem ws' (b : Bf) (nn m n : ℕ) {α : Type} {Q₁ : α → sProp 𝕄} {kont : PUnit → Prog (TpuEff nD τ sig (Elt F) Λ₀ .tc) α}
    {off inb} {sp : Space} {src : Memref sig .tc sp (rs nn) .bf16} {h1 h2} (hr : Rs k := by decide)
    (hk : m ≤ 42 ∧ n = 2 * pos k + 1 ∧ st m k = true := by decide) (hn : cn k = nn := by rfl) :
    Recs x K ⊢ iprop(Led c m (n + 1) -∗ (Led c m n -∗ WP c (kont ⟨⟩) Q₁)
      -∗ WP c (.op (.waitDma2 (ssem k) src (ms b nn off inb) h1 h2) kont) Q₁) := by
  iintro #HR HL Hk
  iapply (wp_ws x K c k m n hk.1 hk.2.1 hk.2.2 rfl b nn hn) $$ [HL]
  · isplitl []
    · iexact HR
    iexact HL
  iintro ⟨HL, -⟩
  iapply Hk; iexact HL

/-- The wait for a departure towards the peer's result. -/
theorem wsg' (nn m n : ℕ) {α : Type} {Q₁ : α → sProp 𝕄} {kont : PUnit → Prog (TpuEff nD τ sig (Elt F) Λ₀ .tc) α}
    {off inb} {sp : Space} {src : Memref sig .tc sp (rs nn) .bf16} {h1 h2} (hr : ¬ Rs k := by decide)
    (hk : m ≤ 42 ∧ n = 2 * pos k + 1 ∧ st m k = true := by decide) (hn : cn k = nn := by rfl) :
    Recs x K ⊢ iprop(Led c m (n + 1) -∗ (Led c m n -∗ Sh x c k -∗ WP c (kont ⟨⟩) Q₁)
      -∗ WP c (.op (.waitDma2 (ssem k) src (ms .acc nn off inb) h1 h2) kont) Q₁) := by
  rw [← send_ag x c k hr]
  iintro #HR HL Hk
  iapply (wp_ws x K c k m n hk.1 hk.2.1 hk.2.2 rfl .acc nn hn) $$ [HL]
  · isplitl []
    · iexact HR
    iexact HL
  iintro ⟨HL, HS⟩
  iapply Hk $$ HL HS

/-- The wait for an arrival in a landing buffer. -/
theorem wr' (b : Bf) (nn m n : ℕ) {α : Type} {Q₁ : α → sProp 𝕄} {kont : PUnit → Prog (TpuEff nD τ sig (Elt F) Λ₀ .tc) α}
    {off inb} {sp : Space} {src : Memref sig .tc sp (rs nn) .bf16} {h1 h2} (hr : Rs k := by decide)
    (hk : k.val + m < 42 ∧ n = 2 * pos k := by decide) (hn : cn k = nn := by rfl) :
    Recs x K ⊢ iprop(Led c m (n + 1) -∗ (Led c m n -∗ In x c k -∗ Ln (F := F) c k -∗ WP c (kont ⟨⟩) Q₁)
      -∗ WP c (.op (.waitDma2 (rsem k) src (ms b nn off inb) h1 h2) kont) Q₁) := by
  have e := recv_rs x c k hr
  iintro #HR HL Hk
  iapply (wp_wr x K c k m n hk.1 hk.2 rfl b nn hn) $$ [HL]
  · isplitl []
    · iexact HR
    iexact HL
  rw [e]
  iintro ⟨HL, HI, HN⟩
  iapply Hk $$ HL HI HN

/-- The wait for an arrival in the result. -/
theorem wrg' (nn m n : ℕ) {α : Type} {Q₁ : α → sProp 𝕄} {kont : PUnit → Prog (TpuEff nD τ sig (Elt F) Λ₀ .tc) α}
    {off inb} {sp : Space} {src : Memref sig .tc sp (rs nn) .bf16} {h1 h2} (hr : ¬ Rs k := by decide)
    (hk : k.val + m < 42 ∧ n = 2 * pos k := by decide) (hn : cn k = nn := by rfl) :
    Recs x K ⊢ iprop(Led c m (n + 1) -∗ (Led c m n -∗ Gt x c k -∗ WP c (kont ⟨⟩) Q₁)
      -∗ WP c (.op (.waitDma2 (rsem k) src (ms .acc nn off inb) h1 h2) kont) Q₁) := by
  have e := recv_ag x c k hr
  iintro #HR HL Hk
  iapply (wp_wr x K c k m n hk.1 hk.2 rfl .acc nn hn) $$ [HL]
  · isplitl []
    · iexact HR
    iexact HL
  rw [e]
  iintro ⟨HL, HI⟩
  iapply Hk $$ HL HI

/-- The load of what landed. -/
theorem ldi (b : Bf) (nn r : ℕ) (hx : srow k (pe k c) = r) {α : Type} {Q₁ : α → sProp 𝕄} {inb}
    {hl : (mr b).view.LoadsAt (Rect.unit (s := rs (bh b)) (offI k c) (rs nn).size inb).toLoadRect}
    {kont : ((rs nn).Idx → Elt F .bf16) → Prog (TpuEff nD τ sig (Elt F) Λ₀ .tc) α} (hr : Rs k := by decide)
    (hb : (cp k).b = b := by rfl) (hn : cn k = nn := by rfl) :
    (In x c k) ⊢ iprop((In x c k -∗ WP c (kont (blk nn r (ctv x (cp k).ct (pe k c)))) Q₁)
      -∗ WP c (.op (.load (mr b) (Rect.unit (s := rs (bh b)) (offI k c) (rs nn).size inb).toLoadRect hl) kont) Q₁) := by
  subst hx hb hn
  have h := wp_ld (cp k).b (offI_eq k hr c) inb c (hl := hl) (Q := Q₁) (k := kont) fullShare
    (shift (srow k (pe k c)) (drow k (pe k c)) (ctv x (cp k).ct (pe k c)))
  rw [blk_shift] at h
  exact h

end Rules

/-! What the body computes from rows at some values is rows at their sums. -/
section Sums
variable (r : ℕ) (a b d e f g : Fld F)
theorem pay2 : k0_pay2 (blk 128 r a) (blk 128 r b) = blk 128 r (pl a b) := by simp only [k0_pay2, shapeCast_self]; rfl
theorem pay3 : k0_pay3 (blk 96 r a) (blk 96 r b) (blk 96 r d) (blk 96 r e) = blk 96 r (pl (pl (pl a b) d) e) := by
  simp only [k0_pay3, shapeCast_self]; rfl
theorem pay4 : k0_pay4 (blk 128 r a) (blk 128 r b) = blk 128 r (pl a b) := by simp only [k0_pay4, shapeCast_self]; rfl
theorem pay5 : k0_pay5 (blk 96 r a) (blk 96 r b) = blk 96 r (pl a b) := by simp only [k0_pay5, shapeCast_self]; rfl
theorem pay6 : k0_pay6 (blk 96 r a) (blk 96 r b) (blk 96 r d) (blk 96 r e) = blk 96 r (pl (pl (pl a b) d) e) := by
  simp only [k0_pay6]; rfl
theorem pay7 : k0_pay7 (blk 96 r a) = blk 96 r a := by simp only [k0_pay7, shapeCast_self]
theorem pay8 : k0_pay8 (blk 96 r a) (blk 96 r b) (blk 96 r d) (blk 96 r e) = blk 96 r (pl (pl (pl a b) d) e) := by
  simp only [k0_pay8]; rfl
theorem pay9 : k0_pay9 (blk 128 r a) (blk 128 r b) = blk 128 r (pl a b) := by simp only [k0_pay9, shapeCast_self]; rfl
theorem pay10 : k0_pay10 (blk 96 r a) = blk 96 r a := by simp only [k0_pay10, shapeCast_self]
theorem pay11 : k0_pay11 (blk 96 r a) (blk 96 r b) (blk 96 r d) (blk 96 r e) (blk 96 r f) (blk 96 r g)
    = blk 96 r (pl (pl (pl (pl (pl a b) d) e) f) g) := by simp only [k0_pay11]; rfl
theorem pay12 : k0_pay12 (blk 32 r a) = blk 32 r a := by simp only [k0_pay12, shapeCast_self]
theorem pay13 : k0_pay13 (blk 32 r a) (blk 32 r b) (blk 32 r d) (blk 32 r e) = blk 32 r (pl (pl (pl a b) d) e) := by
  simp only [k0_pay13]; rfl
end Sums

/-- Rows of the result in the making: the 96 rows finished by the device that differs from `c` in `μ`, the 128, the 32. -/
abbrev OA (c : Dev nD) (μ : ℕ) (g : Fld F) : sProp 𝕄 := PT .acc c (rA (fl μ c)) 96 fullShare g
abbrev OB (c : Dev nD) (μ : ℕ) (g : Fld F) : sProp 𝕄 := PT .acc c (rB (fl μ c)) 128 fullShare g
abbrev OQ (c : Dev nD) (μ : ℕ) (g : Fld F) : sProp 𝕄 := PT .acc c (rQ (fl μ c)) 32 fullShare g

end Cert.HierProof
-- ==== Proof.Pieces.lean ====
/- Rows cut up and put together: equal runs in any order, shares lent one after the other, what landed and what was lent put back. -/
module

public import proofs.«01_k».proof.Proof.Step

@[expose] public section

set_option maxRecDepth 16384

noncomputable section

namespace Cert.HierProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

omit [FloatOps F] in
theorem eqv {P Q : sProp 𝕄} (h : P ⊣⊢ Q) : P = Q := Idealize.SL.BI.Entails.antisymm h.mp h.mpr

section Runs
variable (b : Bf) (c : Dev nD) (r n : ℕ)

omit [FloatOps F] in
/-- Rows are `m` runs of `n` of them, one after the other. -/
theorem PT_range (q : PosShare TreeShare) (g : Fld F) (hn : (PT b c r 0 q g : sProp 𝕄) = iprop(emp)) :
    ∀ m : ℕ, (PT b c r (n * m) q g : sProp 𝕄) = bigSep (Finset.range m) fun i => PT b c (r + n * i) n q g
  | 0 => by rw [Finset.range_zero, bigSep_empty, Nat.mul_zero, hn]; rfl
  | m + 1 => by
    rw [Finset.range_add_one, bigSep_insert Finset.notMem_range_self, Nat.mul_succ, eqv (PT_split b c r (n * m) n q g),
      PT_range q g hn m]
    exact eqv sep_comm

omit [FloatOps F] in
theorem PT_nil (q : PosShare TreeShare) (g : Fld F) : (PT b c r 0 q g : sProp 𝕄) = iprop(emp) := by
  have : rset b r 0 = ∅ := by
    unfold rset View.setOn
    rw [Finset.map_eq_empty, Finset.eq_empty_iff_forall_notMem]
    intro i hi; have := mem_rowSet.mp hi; omega
  unfold PT; rw [this]; exact pointsTo_empty ..

omit [FloatOps F] in
/-- Rows are the runs that start at `f`, in any order. -/
theorem PT_runs (q : PosShare TreeShare) (g : Fld F) {m : ℕ} (f : Fin m → ℕ) (e : Fin m → Fin m) (he : Function.Injective e)
    (hf : ∀ i, f i = r + n * (e i).val) :
    (PT b c r (n * m) q g : sProp 𝕄) = bigSep Finset.univ fun i => PT b c (f i) n q g := by
  have hr : (Finset.univ : Finset (Fin m)).map ⟨fun i => (e i).val, fun i j h => he (Fin.ext h)⟩ = Finset.range m := by
    refine Finset.eq_of_subset_of_card_le ?_ ?_
    · intro i hi
      obtain ⟨j, -, rfl⟩ := Finset.mem_map.mp hi
      exact Finset.mem_range.mpr (e j).isLt
    · rw [Finset.card_map, Finset.card_range, Finset.card_univ, Fintype.card_fin]
  rw [PT_range b c r n q g (PT_nil b c r q g) m, ← hr, bigSep_map]
  exact bigSep_congr fun i _ => by rw [hf i]; rfl

omit [FloatOps F] in
/-- Two runs side by side, each at some values, are one at some values. -/
theorem PX_join (a : ℕ) : iprop(PX b c r a ∗ PX b c (r + a) n) ⊢ (PX b c r (a + n) : sProp 𝕄) := by
  unfold PX
  iintro ⟨⟨%g, H⟩, ⟨%g', H'⟩⟩
  iexists (fun i j => if i < r + a then g i j else g' i j)
  have e1 : (PT b c r a fullShare g : sProp 𝕄) = PT b c r a fullShare (fun i j => if i < r + a then g i j else g' i j) :=
    PT_congr b c r a fullShare fun i h1 h2 j _ => (if_pos h2).symm
  have e2 : (PT b c (r + a) n fullShare g' : sProp 𝕄) = PT b c (r + a) n fullShare (fun i j => if i < r + a then g i j else g' i j) :=
    PT_congr b c (r + a) n fullShare fun i h1 h2 j _ => (if_neg (by omega)).symm
  ihave H := (Entails.of_eq e1) $$ H
  ihave H' := (Entails.of_eq e2) $$ H'
  ihave HH := (Entails.of_eq (eqv (PT_split b c r a n fullShare (fun i j => if i < r + a then g i j else g' i j))).symm) $$ [H H']
  · isplitl [H]
    · iexact H
    iexact H'
  iexact HH

omit [FloatOps F] in
theorem PX_range : ∀ m : ℕ, (bigSep (Finset.range (m + 1)) fun i => PX b c (r + n * i) n) ⊢ (PX b c r (n * (m + 1)) : sProp 𝕄)
  | 0 => by
    rw [show Finset.range (0 + 1) = {0} from rfl, bigSep_singleton, Nat.mul_zero, Nat.mul_one]; exact BIBase.Entails.rfl
  | m + 1 => by
    rw [Finset.range_add_one, bigSep_insert Finset.notMem_range_self, Nat.mul_succ]
    exact (BIClass.sep_mono BIBase.Entails.rfl (PX_range m)).trans (sep_comm.mp.trans (PX_join b c r n (n * (m + 1))))

omit [FloatOps F] in
/-- The runs that start at `f`, each at some values, are all the rows at some values. -/
theorem PX_runs {m : ℕ} (f : Fin (m + 1) → ℕ) (e : Fin (m + 1) → Fin (m + 1)) (he : Function.Injective e) (hf : ∀ i, f i = r + n * (e i).val) :
    (bigSep Finset.univ fun i => PX b c (f i) n) ⊢ (PX b c r (n * (m + 1)) : sProp 𝕄) := by
  have hr : (Finset.univ : Finset (Fin (m + 1))).map ⟨fun i => (e i).val, fun i j h => he (Fin.ext h)⟩ = Finset.range (m + 1) := by
    refine Finset.eq_of_subset_of_card_le ?_ ?_
    · intro i hi
      obtain ⟨j, -, rfl⟩ := Finset.mem_map.mp hi
      exact Finset.mem_range.mpr (e j).isLt
    · rw [Finset.card_map, Finset.card_range, Finset.card_univ, Fintype.card_fin]
  have e : (bigSep Finset.univ fun i => PX b c (f i) n) = (bigSep (Finset.range (m + 1)) fun i => PX b c (r + n * i) n : sProp 𝕄) := by
    rw [← hr, bigSep_map]
    exact bigSep_congr fun i _ => by rw [hf i]; rfl
  rw [e]; exact PX_range b c r n m

end Runs

/-! ## The accumulator's blocks, as seen from device `c` -/

/-- A block's place among its kind, for the device that differs from `c` in `μ`. -/
def eA (c : Dev nD) (μ : Fin 16) : Fin 16 := ⟨rA (fl μ.val c) / 96 % 16, Nat.mod_lt _ (by decide)⟩
def eB (c : Dev nD) (μ : Fin 4) : Fin 4 := ⟨(rB (fl μ.val c) - 1536) / 128 % 4, Nat.mod_lt _ (by decide)⟩
def eQ (c : Dev nD) (i : Fin 4) : Fin 4 := ⟨(rQ (fl (4 * i.val) c) - rB (fl 0 c)) / 32 % 4, Nat.mod_lt _ (by decide)⟩
theorem eA_inj : ∀ c : Dev nD, Function.Injective (eA c) := by decide +kernel
theorem eB_inj : ∀ c : Dev nD, Function.Injective (eB c) := by decide +kernel
theorem eQ_inj : ∀ c : Dev nD, Function.Injective (eQ c) := by decide +kernel
theorem eA_eq : ∀ (c : Dev nD) (μ : Fin 16), rA (fl μ.val c) = 0 + 96 * (eA c μ).val := by decide +kernel
theorem eB_eq : ∀ (c : Dev nD) (μ : Fin 4), rB (fl μ.val c) = 1536 + 128 * (eB c μ).val := by decide +kernel
theorem eQ_eq : ∀ (c : Dev nD) (i : Fin 4), rQ (fl (4 * i.val) c) = rB (fl 0 c) + 32 * (eQ c i).val := by decide +kernel

omit [FloatOps F] in
theorem sep_four (Φ : Fin 4 → sProp 𝕄) : bigSep Finset.univ Φ = iprop(Φ 0 ∗ Φ 1 ∗ Φ 2 ∗ Φ 3) := by
  rw [show (Finset.univ : Finset (Fin 4)) = {0, 1, 2, 3} by decide, bigSep_insert (by decide), bigSep_insert (by decide),
    bigSep_insert (by decide), bigSep_singleton]
  rfl

omit [FloatOps F] in
theorem sep_sixteen (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10
    ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} by decide]
  iterate 15 rw [bigSep_insert (by decide)]
  rw [bigSep_singleton]
  rfl

omit [FloatOps F] in
/-- The accumulator is the sixteen blocks of the first part and the four of the second. -/
theorem acc_blocks (c : Dev nD) (g : Fld F) : (PT .acc c 0 2048 fullShare g : sProp 𝕄)
    = iprop((OA c 0 g ∗ OA c 1 g ∗ OA c 2 g ∗ OA c 3 g ∗ OA c 4 g ∗ OA c 5 g ∗ OA c 6 g ∗ OA c 7 g ∗ OA c 8 g ∗ OA c 9 g ∗ OA c 10 g
      ∗ OA c 11 g ∗ OA c 12 g ∗ OA c 13 g ∗ OA c 14 g ∗ OA c 15 g) ∗ (OB c 0 g ∗ OB c 1 g ∗ OB c 2 g ∗ OB c 3 g)) := by
  rw [eqv (PT_split .acc c 0 1536 512 fullShare g : (PT .acc c 0 2048 fullShare g : sProp 𝕄) ⊣⊢ _),
    PT_runs .acc c 0 96 fullShare g (m := 16) _ (eA c) (eA_inj c) (eA_eq c), sep_sixteen,
    PT_runs .acc c (0 + 1536) 128 fullShare g (m := 4) _ (eB c) (eB_inj c) (eB_eq c), sep_four]
  rfl

omit [FloatOps F] in
/-- A block of the second part is its four quarters. -/
theorem quarters (c : Dev nD) (g : Fld F) : (OB c 0 g : sProp 𝕄) = iprop(OQ c 0 g ∗ OQ c 4 g ∗ OQ c 8 g ∗ OQ c 12 g) := by
  rw [show (OB c 0 g : sProp 𝕄) = _ from PT_runs .acc c (rB (fl 0 c)) 32 fullShare g (m := 4) _ (eQ c) (eQ_inj c) (eQ_eq c), sep_four]
  rfl

/-! ## Shares lent -/

omit [FloatOps F] in
theorem lend (c : Dev nD) (r n a : ℕ) (g : Fld F) : (PT .acc c r n (shr a) g : sProp 𝕄)
    = iprop(PT .acc c r n (shr a).left g ∗ PT .acc c r n (shr (a + 1)) g) := eqv (PT_share .acc c r n (shr a) g)

variable (x : Dev nD → Fld F) (c : Dev nD)

theorem src14 : OB c 2 (vU1 x c) = Src x c 14 := rfl
theorem src15 : OA c 3 (vS x c) = Src x c 15 := rfl
theorem src16 : OA c 2 (vT x c) = Src x c 16 := rfl
theorem src17 : OA c 1 (vS x c) = Src x c 17 := rfl

theorem blkA0 : blk 96 (rA (fl 0 c)) (vA x c) = blk 96 (rA (fl 0 c)) (vG x) := by
  rw [fl_zero]; funext i
  have : (i 0).val < 96 := (i 0).isLt
  exact vG_A x c _ _ (by omega) (by omega)
theorem blkQ0 : blk 32 (rQ (fl 0 c)) (vB x c) = blk 32 (rQ (fl 0 c)) (vG x) := by
  rw [fl_zero]; funext i
  have : (i 0).val < 32 := (i 0).isLt
  exact vG_Q x c _ _ (by omega) (by omega)

/-- What landed in the result, as rows of it. -/
theorem Gt_eq (k : Fin 42) : Gt x c k = PT .acc c (tyr (cp k).ty (fl ((cp k).pm ^^^ (cp k).sm) c)) (cn k) fullShare (vG x) := by
  unfold Gt; rw [srow_pe]

theorem sharesA : OA c 0 (vG x) = iprop(Sh x c 21 ∗ Sh x c 22 ∗ Sh x c 23 ∗ Sh x c 24 ∗ Sh x c 25) := by
  show PT .acc c (rA (fl 0 c)) 96 (shr 0) (vG x) = _
  rw [lend, lend, lend, lend]; rfl
theorem sharesQ : OQ c 0 (vG x) = iprop(Sh x c 26 ∗ Sh x c 27 ∗ Sh x c 28) := by
  show PT .acc c (rQ (fl 0 c)) 32 (shr 0) (vG x) = _
  rw [lend, lend]; rfl
theorem shares2 : OA c 2 (vG x) = iprop(Sh x c 29 ∗ Sh x c 30 ∗ Sh x c 31 ∗ Sh x c 32) := by
  show PT .acc c (rA (fl 2 c)) 96 (shr 0) (vG x) = _
  rw [lend, lend, lend]; rfl
theorem sharesB : OB c 0 (vG x) = iprop(Sh x c 33 ∗ Sh x c 34) := by
  show PT .acc c (rB (fl 0 c)) 128 (shr 0) (vG x) = _
  rw [lend]; rfl
theorem shares1 : OA c 1 (vG x) = iprop(Sh x c 35 ∗ Sh x c 36 ∗ Sh x c 37) := by
  show PT .acc c (rA (fl 1 c)) 96 (shr 0) (vG x) = _
  rw [lend, lend]; rfl
theorem shares3 : OA c 3 (vG x) = iprop(Sh x c 39 ∗ Sh x c 40 ∗ Sh x c 41) := by
  show PT .acc c (rA (fl 3 c)) 96 (shr 0) (vG x) = _
  rw [lend, lend]; rfl
theorem share38 : OB c 2 (vG x) = Sh x c 38 := rfl

theorem gt24 : Gt x c 24 = OA c 2 (vG x) := Gt_eq x c 24
theorem gt25 : Gt x c 25 = OA c 1 (vG x) := Gt_eq x c 25
theorem gt32 : Gt x c 32 = OA c 3 (vG x) := Gt_eq x c 32
theorem gt33 : Gt x c 33 = OB c 2 (vG x) := Gt_eq x c 33

/-- The sums along z of the second part, cut for the exchange of quarters. -/
theorem cutQ : OB c 0 (vU2 x c) ⊣⊢ iprop(OQ c 0 (vU2 x c) ∗ Src x c 18 ∗ Src x c 19 ∗ Src x c 20) := by
  rw [quarters]
  show _ ⊣⊢ iprop(OQ c 0 (vU2 x c) ∗ OQ c 8 (vU2 x c) ∗ OQ c 4 (vU2 x c) ∗ OQ c 12 (vU2 x c))
  constructor
  · iintro ⟨H0, H1, H2, H3⟩; iframe
  · iintro ⟨H0, H1, H2, H3⟩; iframe

/-- The finished quarters put together, and lent. -/
theorem joinQ : iprop((Sh x c 26 ∗ Sh x c 27 ∗ Sh x c 28) ∗ Gt x c 26 ∗ Gt x c 27 ∗ Gt x c 28) ⊢ iprop(Sh x c 33 ∗ Sh x c 34) := by
  rw [← sharesB x c, ← sharesQ x c]
  rw [quarters, show Gt x c 26 = OQ c 8 (vG x) from Gt_eq x c 26, show Gt x c 27 = OQ c 4 (vG x) from Gt_eq x c 27,
    show Gt x c 28 = OQ c 12 (vG x) from Gt_eq x c 28]
  iintro ⟨H0, H1, H2, H3⟩; iframe

/-- All that landed, and all that was lent, is the whole result. -/
theorem joinAll : iprop(((Sh x c 21 ∗ Sh x c 22 ∗ Sh x c 23 ∗ Sh x c 24 ∗ Sh x c 25) ∗ (Sh x c 29 ∗ Sh x c 30 ∗ Sh x c 31 ∗ Sh x c 32)
      ∗ (Sh x c 35 ∗ Sh x c 36 ∗ Sh x c 37) ∗ (Sh x c 39 ∗ Sh x c 40 ∗ Sh x c 41))
    ∗ (Gt x c 21 ∗ Gt x c 22 ∗ Gt x c 23) ∗ (Gt x c 29 ∗ Gt x c 30 ∗ Gt x c 31) ∗ (Gt x c 35 ∗ Gt x c 36 ∗ Gt x c 37)
    ∗ (Gt x c 39 ∗ Gt x c 40 ∗ Gt x c 41) ∗ (Sh x c 33 ∗ Sh x c 34) ∗ Sh x c 38 ∗ Gt x c 34 ∗ Gt x c 38)
    ⊢ PT .acc c 0 2048 fullShare (vG x) := by
  rw [acc_blocks, ← sharesA, ← shares2, ← shares1, ← shares3,
    ← sharesB, ← share38,
    show Gt x c 21 = OA c 8 (vG x) from Gt_eq x c 21, show Gt x c 22 = OA c 4 (vG x) from Gt_eq x c 22,
    show Gt x c 23 = OA c 12 (vG x) from Gt_eq x c 23, show Gt x c 29 = OA c 10 (vG x) from Gt_eq x c 29,
    show Gt x c 30 = OA c 6 (vG x) from Gt_eq x c 30, show Gt x c 31 = OA c 14 (vG x) from Gt_eq x c 31,
    show Gt x c 35 = OA c 9 (vG x) from Gt_eq x c 35, show Gt x c 36 = OA c 5 (vG x) from Gt_eq x c 36,
    show Gt x c 37 = OA c 13 (vG x) from Gt_eq x c 37, show Gt x c 39 = OA c 11 (vG x) from Gt_eq x c 39,
    show Gt x c 40 = OA c 7 (vG x) from Gt_eq x c 40, show Gt x c 41 = OA c 15 (vG x) from Gt_eq x c 41,
    show Gt x c 34 = OB c 1 (vG x) from Gt_eq x c 34, show Gt x c 38 = OB c 3 (vG x) from Gt_eq x c 38]
  iintro ⟨⟨A0, A2, A1, A3⟩, ⟨A8, A4, A12⟩, ⟨A10, A6, A14⟩, ⟨A9, A5, A13⟩, ⟨A11, A7, A15⟩, B0, B2, B1, B3⟩
  iframe

end Cert.HierProof
-- ==== Proof.Enter.lean ====
/- The body, its entry: the input taken into the result, the barrier, and what a core holds before and after its copies. -/
module

public import proofs.«01_k».proof.Proof.Pieces

@[expose] public section

set_option maxRecDepth 16384

noncomputable section

namespace Cert.HierProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Values by row and column of any contents -/

omit [FloatOps F] in
/-- Contents read by row and column. -/
def toF {h : ℕ} [NeZero h] (f : (rs h).Idx → Elt F .bf16) : Fld F := fun i j =>
  f (Fin.cons ⟨i % h, Nat.mod_lt _ (NeZero.pos h)⟩ (Fin.cons ⟨j % 1024, Nat.mod_lt _ (by decide)⟩ finZeroElim))

omit [FloatOps F] in
theorem toF_idx {h : ℕ} [NeZero h] (f : (rs h).Idx → Elt F .bf16) (i : (rs h).Idx) : toF f (i 0).val (i 1).val = f i := by
  unfold toF
  congr 1
  funext a
  refine Fin.cases ?_ (fun a => Fin.cases ?_ (fun a => a.elim0) a) a
  · exact Fin.ext (Nat.mod_eq_of_lt (i 0).isLt)
  · exact Fin.ext (Nat.mod_eq_of_lt (i 1).isLt)

omit [FloatOps F] in
theorem blk_toF {h : ℕ} [NeZero h] (f : (rs h).Idx → Elt F .bf16) : blk h 0 (toF f) = f := by
  funext i; unfold blk; rw [Nat.zero_add]; exact toF_idx f i

omit [FloatOps F] in
/-- Any contents of a buffer are given by row and column. -/
theorem cont_surj (b : Bf) (f : (mr b).view.ty.Contents (Elt F)) : ∃ g, cont b g = f := by
  cases b
  · exact ⟨toF (h := 2048) f, funext fun i => toF_idx (h := 2048) f i⟩
  · exact ⟨toF (h := 1152) f, funext fun i => toF_idx (h := 1152) f i⟩
  · exact ⟨toF (h := 96) f, funext fun i => toF_idx (h := 96) f i⟩
  · exact ⟨toF (h := 288) f, funext fun i => toF_idx (h := 288) f i⟩
  · exact ⟨toF (h := 384) f, funext fun i => toF_idx (h := 384) f i⟩

omit [FloatOps F] in
/-- A whole buffer at some contents is its rows at some values. -/
theorem whole_PX (b : Bf) (c : Dev nD) :
    (iprop(∃ f : (mr b).view.ty.Contents (Elt F), (mr b).view.loc (c : Thread nD τ) ↦{fullShare} f) : sProp 𝕄) ⊢ PX b c 0 (bh b) := by
  unfold PX PT; rw [rset_whole]
  iintro ⟨%f, H⟩
  obtain ⟨g, rfl⟩ := cont_surj b f
  iexists g; iexact H

omit [FloatOps F] in
theorem PX_whole (b : Bf) (c : Dev nD) :
    (PX (F := F) b c 0 (bh b)) ⊢ iprop(∃ f : (mr b).view.ty.Contents (Elt F), (mr b).view.loc (c : Thread nD τ) ↦{fullShare} f) := by
  unfold PX PT; rw [rset_whole]
  iintro ⟨%g, H⟩
  iexists _; iexact H

variable (x : Dev nD → Fld F) (K : Dev nD × Option (Bool × Fin 42) → ℕ) (c : Dev nD)

/-! ## The barrier -/

/-- What signal `i` takes. -/
def Sg (i : Fin 5) : sProp 𝕄 :=
  iprop((dutyTok ER (barCell (pr i c)) 0 i ∗ reached ER (barCell (pr i c)) 0) ∗ barPay (F := F) (pr i c) i)

theorem sg' (i : Fin 5) (j : ℕ) {α : Type} {Q₁ : α → sProp 𝕄} {kont : PUnit → Prog (TpuEff nD τ sig (Elt F) Λ₀ .tc) α}
    {hv} (hj : (⟨(4 - j) % 5, Nat.mod_lt _ (by decide)⟩ : Fin 5) = i := by rfl) :
    Recs x K ⊢ iprop((∃ W, owes (c : Thread nD τ) (Ob c (j + 1)) W) -∗ Sg (F := F) c i -∗ ((∃ W, owes (c : Thread nD τ) (Ob c j) W) -∗ WP c (kont ⟨⟩) Q₁)
      -∗ WP c (.op (.semSignal (Dev.tc (⟨devB i c, hv⟩ : Dev nD)) barS (1#32 : BitVec 32).toInt) kont) Q₁) := by
  subst hj
  rw [dev_pr]
  unfold Sg
  iintro #HR ⟨%W, Ho⟩ ⟨⟨Ht, Hr⟩, Hp⟩ Hk
  ihave #HI := (Recs_inv x K (pr ⟨(4 - j) % 5, Nat.mod_lt _ (by decide)⟩ c, none)) $$ HR
  iapply (Rounds.wp_signal 𝒱₀ ER (Rd x) (c : Thread nD τ) none (dst := (pr ⟨(4 - j) % 5, Nat.mod_lt _ (by decide)⟩ c : Thread nD τ))
      (κ := K (pr ⟨(4 - j) % 5, Nat.mod_lt _ (by decide)⟩ c, none)) (r := 0)
      (d := ⟨(4 - j) % 5, Nat.mod_lt _ (by decide)⟩) (by rw [duties_bar]; exact Finset.mem_univ _) (amount_bar x _ _) () (Ob c j) rfl) $$ [Ho Ht Hr Hp]
  · isplitr; · iexact HI
    isplitl [Ho]; · iexact Ho
    isplitl [Ht]; · iexact Ht
    isplitl [Hp]; · rw [payload_bar]; iexact Hp
    iexact Hr
  iintro Ho
  iapply Hk
  iexists W; iexact Ho

theorem bw' {α : Type} {Q₁ : α → sProp 𝕄} {kont : PUnit → Prog (TpuEff nD τ sig (Elt F) Λ₀ .tc) α} :
    Recs x K ⊢ iprop((∃ W, owes (c : Thread nD τ) (Ob c 0) W) -∗ (cred (tallyAt (barCell c) () 5) ∗ atPos ER (barCell c) 0 ∅ 0)
      -∗ ((∃ W, owes (c : Thread nD τ) (Oc c 42) W)
        -∗ (bigSep Finset.univ fun k => iprop(land (F := F) c k ∗ reached ER (recvCell k (pe k c)) 0)) -∗ semVal (barCell c) 0 -∗ WP c (kont ⟨⟩) Q₁)
      -∗ WP c (.op (.semWait barS (5#32 : BitVec 32).toInt) kont) Q₁) := by
  iintro #HR ⟨%W, Ho⟩ ⟨Hc, Ha⟩ Hk
  ihave #HI := (Recs_inv x K (c, none)) $$ HR
  ihave #Hlev := (Recs_lev x K) $$ HR
  iapply (Rounds.wp_wait_rest_token 𝒱₀ ER (Rd x) (c : Thread nD τ) none (κ := K (c, none))
      (wpE_semWait_eq 𝒱₀ (c : Thread nD τ) none Set.univ) (Set.mem_univ _) () (O := Oc c 42) (W := W) (R := 0) (m := 0) (T := ∅)
      (by rw [expect_bar]; decide)) $$ [Hc Ho Ha]
  · isplitr; · iexact HI
    isplitl [Hc]; · iexact Hc
    isplitl [Ho]; · iexact Ho
    isplitr; · iapply (mayWait_Oc c _ 42 (Nat.le_refl _) (by rw [lv_bar]; decide)); iexact Hlev
    iexact Ha
  iintro ⟨Ho, Ha, -, Hp⟩
  ihave Hp := (Entails.of_eq (rest_bar x c)) $$ Hp
  imod (Rounds.cell_close ER (Rd x) (Set.mem_univ (K (c, none))) (fun h => h) (R := 0 + 1) (duties_later x (barCell c))) $$ [Ha] with Hz
  · isplitr; · iexact HI
    iexact Ha
  iapply Hk $$ [Ho] Hp Hz
  iexists _; iexact Ho

/-! ## The first three parts -/

/-- The core's input, in its staging buffer. -/
abbrev Stg (f : (cc0_stg0_0 : Ref sig .tc).ty.Contents (Elt F)) : sProp 𝕄 :=
  ((c : Thread nD τ).loc cc0_stg0_0) ↦{fullShare} f

theorem pay1 (v : Vec F S2048x1024 .bf16) : k0_pay1 v = v := by unfold k0_pay1; exact shapeCast_self ..

theorem part1 (f : (cc0_stg0_0 : Ref sig .tc).ty.Contents (Elt F)) : Stg c f ⊢
    WP c (ap (k0_part1 (F := F))) fun r => iprop(⌜r.1 = c⌝ ∗ ⌜r.2.2.2.2.2.2 = f⌝ ∗ Stg c f) := by
  rw [k0_part1_eq_skeleton]
  unfold k0_part1_skel
  simp only [Prog.lift, Prog.bind_op, Prog.bind_ret, Prog.pure_eq_ret, wp_deviceId]
  iintro H
  iapply (wp_load 𝒱₀ (c : Thread nD τ) none Set.univ (m := Memref.whole cc0_stg0_0) (Finset.subset_univ _)) $$ H
  iintro H
  iapply fin
  isplitr
  · ipureintro; rfl
  isplitr
  · ipureintro
    exact (pay1 _).trans (Memref.readAt_unit_zero (Elt F) cc0_stg0_0 (by decide) _ f)
  iexact H

theorem part2 {w1 w2 w3 : BitVec 32} (f : (rs 2048).Idx → Elt F .bf16) (hx : x c = toF f) :
    iprop(Recs x K ∗ PX (F := F) .acc c 0 2048 ∗ (∃ W, owes (c : Thread nD τ) (Ob c 5) W) ∗ Sg (F := F) c 0) ⊢
    WP c (ap (k0_part2 (F := F)) c w1 w2 w3 f) fun r => iprop(⌜r.2.2.2.2.2.2.2.2.2.2 = SemArray.scalar (sig.barrier 0 rfl)⌝
      ∗ PT .acc c 0 2048 fullShare (x c) ∗ (∃ W, owes (c : Thread nD τ) (Ob c 4) W)) := by
  rw [k0_part2_eq_skeleton]
  unfold k0_part2_skel PX
  simp only [Prog.lift, Prog.bind_op, Prog.bind_ret, Prog.pure_eq_ret, semSignalWord]
  iintro ⟨#HR, ⟨%g, HA⟩, HO, S0⟩
  iapply (wp_ld .acc (n := 2048) (r := 0) rfl _ c fullShare g) $$ HA
  iintro HA
  iapply (wp_st .acc (n := 2048) (r := 0) rfl _ c g (x c) (by rw [hx]; exact (blk_toF f).symm)) $$ HA
  iintro HA
  iapply (sg' x K c 0 4) $$ HR HO S0
  iintro HO
  iapply fin
  isplitr
  · ipureintro; rfl
  iframe

theorem part3 {w1 w2 w3 w4 w5 w6 w7 w8 w9 : BitVec 32} :
    iprop(Recs x K ∗ (∃ W, owes (c : Thread nD τ) (Ob c 4) W) ∗ (Sg (F := F) c 1 ∗ Sg (F := F) c 2 ∗ Sg (F := F) c 3 ∗ Sg (F := F) c 4)
      ∗ cred (tallyAt (barCell c) () 5) ∗ atPos ER (barCell c) 0 ∅ 0) ⊢
    WP c (ap (k0_part3 (F := F)) c w1 w2 w3 w4 w5 w6 w7 w8 w9 (SemArray.scalar (sig.barrier 0 rfl))) fun _ =>
      iprop((∃ W, owes (c : Thread nD τ) (Oc c 42) W)
        ∗ (bigSep Finset.univ fun k => iprop(land (F := F) c k ∗ reached ER (recvCell k (pe k c)) 0)) ∗ semVal (barCell c) 0) := by
  rw [k0_part3_eq_skeleton]
  unfold k0_part3_skel
  simp only [Prog.lift, Prog.bind_op, Prog.bind_ret, Prog.pure_eq_ret, semSignalWord, semWaitWord]
  iintro ⟨#HR, HO, ⟨S1, S2, S3, S4⟩, HB⟩
  iapply (sg' x K c 1 3) $$ HR HO S1
  iintro HO
  iapply (sg' x K c 2 2) $$ HR HO S2
  iintro HO
  iapply (sg' x K c 3 1) $$ HR HO S3
  iintro HO
  iapply (sg' x K c 4 0) $$ HR HO S4
  iintro HO
  iapply (bw' x K c) $$ HR HO HB
  iintro HO HP HZ
  iapply fin
  iframe

/-! ## Before and after -/

/-- The landing place of the peer's copy `k` in `c`'s own buffers. -/
def slot (k : Fin 42) : sProp 𝕄 := if Rs k then PX (F := F) (cp k).b c (drow k (pe k c)) (cn k) else iprop(emp)

/-- What a core starts with for copy `k`. -/
def Own (k : Fin 42) : sProp 𝕄 :=
  iprop(pend0 (F := F) c k ∗ atPos ER (sendCell k c) 0 ∅ 0 ∗ atPos ER (recvCell k c) 0 ∅ 0 ∗ cred (tallyAt (recvCell k c) () (N k)))

omit [FloatOps F] in
theorem barPay_own (i : Fin 5) : barPay (F := F) (pr i c) i
    = bigSep (Finset.univ.filter fun k => (cp k).pi = i) fun k => iprop(slot (F := F) c k ∗ reached ER (recvCell k c) 0) := by
  unfold barPay
  refine bigSep_congr fun k hk => ?_
  have hi : (cp k).pi = i := (Finset.mem_filter.mp hk).2
  have e : pe k (pr i c) = c := by rw [pe_eq, hi, pr_pr]
  have e' : pr i c = pe k c := by rw [pe_eq, hi]
  unfold land slot
  rw [e, e']

omit [FloatOps F] in
/-- The five signals' means. -/
theorem signals : iprop((bigSep Finset.univ fun i => iprop(dutyTok ER (barCell (pr i c)) 0 i ∗ reached ER (barCell (pr i c)) 0))
      ∗ (bigSep Finset.univ fun k => slot (F := F) c k) ∗ bigSep Finset.univ fun k => reached ER (recvCell k c) 0)
    ⊢ iprop(Sg (F := F) c 0 ∗ Sg (F := F) c 1 ∗ Sg (F := F) c 2 ∗ Sg (F := F) c 3 ∗ Sg (F := F) c 4) := by
  have h1 : iprop((bigSep Finset.univ fun k => slot (F := F) c k) ∗ bigSep Finset.univ fun k => reached ER (recvCell k c) 0)
      = (bigSep Finset.univ fun i => barPay (F := F) (pr i c) i) := by
    rw [bigSep_congr fun i _ => barPay_own c i, bigSep_parts (fun k => (cp k).pi) fun k => iprop(slot (F := F) c k ∗ reached ER (recvCell k c) 0)]
    exact (bigSep_sep _ _ _).symm
  have h2 : iprop((bigSep Finset.univ fun i => iprop(dutyTok ER (barCell (pr i c)) 0 i ∗ reached ER (barCell (pr i c)) 0))
      ∗ bigSep Finset.univ fun i => barPay (F := F) (pr i c) i) = bigSep Finset.univ fun i => Sg (F := F) c i := (bigSep_sep _ _ _).symm
  have h3 : (bigSep Finset.univ fun i : Fin 5 => Sg (F := F) c i) = iprop(Sg (F := F) c 0 ∗ Sg (F := F) c 1 ∗ Sg (F := F) c 2 ∗ Sg (F := F) c 3 ∗ Sg (F := F) c 4) := by
    rw [show (Finset.univ : Finset (Fin 5)) = {0, 1, 2, 3, 4} by decide, bigSep_insert (by decide), bigSep_insert (by decide),
      bigSep_insert (by decide), bigSep_insert (by decide), bigSep_singleton]
    rfl
  rw [h1, h2, h3]

omit [FloatOps F] in
theorem item_intro (k : Fin 42) : iprop((land (F := F) c k ∗ reached ER (recvCell k (pe k c)) 0) ∗ Own (F := F) c k) ⊢ item (F := F) c 42 84 k := by
  have e1 : st 42 k = false := by unfold st; rw [decide_eq_false_iff_not]; omega
  have hp : pos k ≤ 41 := by revert k; decide
  have e2 : sw 84 k = false := by unfold sw; rw [decide_eq_false_iff_not]; omega
  have e3 : rw' 84 k = false := by unfold rw'; rw [decide_eq_false_iff_not]; omega
  unfold Own item sside rside pend
  rw [e1, e2, e3]
  simp only [Bool.false_eq_true, if_false]
  iintro ⟨⟨Hl, Hr⟩, Hp, Hs, Hv, Hc⟩
  iframe

omit [FloatOps F] in
/-- The ledger, nothing started and nothing waited for. -/
theorem Led_intro : iprop((∃ W, owes (c : Thread nD τ) (Oc c 42) W)
      ∗ (bigSep Finset.univ fun k => iprop(land (F := F) c k ∗ reached ER (recvCell k (pe k c)) 0)) ∗ bigSep Finset.univ fun k => Own (F := F) c k)
    ⊢ Led (F := F) c 42 84 := by
  unfold Led
  refine BIClass.sep_mono BIBase.Entails.rfl ?_
  exact (Entails.of_eq (bigSep_sep Finset.univ (fun k => iprop(land (F := F) c k ∗ reached ER (recvCell k (pe k c)) 0)) fun k => Own (F := F) c k).symm).trans
    (bigSep_mono fun k _ => item_intro c k)

omit [FloatOps F] in
/-- The ledger, all started and all waited for. -/
theorem Led_elim : (Led (F := F) c 0 0) ⊢ iprop((∃ W, owes (c : Thread nD τ) 0 W)
      ∗ bigSep Finset.univ fun k => iprop(semVal (sendCell k c) 0 ∗ semVal (recvCell k c) 0)) := by
  unfold Led
  refine BIClass.sep_mono BIBase.Entails.rfl (bigSep_mono fun k _ => ?_)
  have e1 : st 0 k = true := by unfold st; rw [decide_eq_true_iff]; omega
  have e2 : sw 0 k = true := by unfold sw; rw [decide_eq_true_iff]; omega
  have e3 : rw' 0 k = true := by unfold rw'; rw [decide_eq_true_iff]; omega
  unfold item sside rside
  rw [e1, e2, e3]
  simp only [if_true]
  exact Entails.of_eq (eqv emp_sep)

/-! ## The landing buffers cut up and put together -/

omit [FloatOps F] in
theorem PT_PX (b : Bf) (c : Dev nD) (r n : ℕ) (g : Fld F) : (PT b c r n fullShare g : sProp 𝕄) ⊢ PX b c r n := by
  unfold PX; iintro H; iexists g; iexact H

section Cut
variable (b : Bf) (r n : ℕ)

omit [FloatOps F] in
/-- Rows at some values are the runs that start at `f`, each at some values. -/
theorem PX_cut {m : ℕ} (f : Fin m → ℕ) (e : Fin m → Fin m) (he : Function.Injective e) (hf : ∀ i, f i = r + n * (e i).val) :
    (PX b c r (n * m) : sProp 𝕄) ⊢ bigSep Finset.univ fun i => PX b c (f i) n := by
  have h : ∀ g : Fld F, (PT b c r (n * m) fullShare g : sProp 𝕄) ⊢ bigSep Finset.univ fun i => PX b c (f i) n := fun g =>
    (Entails.of_eq (PT_runs b c r n fullShare g f e he hf)).trans (bigSep_mono fun i _ => PT_PX b c _ n g)
  conv => lhs; unfold PX
  iintro ⟨%g, H⟩
  iapply (h g); iexact H
end Cut

omit [FloatOps F] in
theorem sep_three (Φ : Fin 3 → sProp 𝕄) : bigSep Finset.univ Φ = iprop(Φ 0 ∗ Φ 1 ∗ Φ 2) := by
  rw [show (Finset.univ : Finset (Fin 3)) = {0, 1, 2} by decide, bigSep_insert (by decide), bigSep_insert (by decide), bigSep_singleton]
  rfl

omit [FloatOps F] in
theorem sep_twelve (Φ : Fin 12 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) := by
  rw [show (Finset.univ : Finset (Fin 12)) = {0, 1, 2, 3, 4, 5, 6, 7, 8, 9, 10, 11} by decide]
  iterate 11 rw [bigSep_insert (by decide)]
  rw [bigSep_singleton]
  rfl

/-- The copies that land in each buffer. -/
def iA : Fin 12 → Fin 42 := ![0, 1, 2, 5, 6, 7, 8, 9, 10, 11, 12, 13]
def iQ : Fin 3 → Fin 42 := ![18, 19, 20]
def iZ : Fin 3 → Fin 42 := ![15, 16, 17]
def iY : Fin 3 → Fin 42 := ![3, 4, 14]
/-- Where in its buffer each lands, counted in runs. -/
def jA (c : Dev nD) (i : Fin 12) : Fin 12 := ⟨drow (iA i) (pe (iA i) c) / 96 % 12, Nat.mod_lt _ (by decide)⟩
def jQ (c : Dev nD) (i : Fin 3) : Fin 3 := ⟨drow (iQ i) (pe (iQ i) c) / 32 % 3, Nat.mod_lt _ (by decide)⟩
def jZ (c : Dev nD) (i : Fin 3) : Fin 3 := ⟨drow (iZ i) (pe (iZ i) c) / 96 % 3, Nat.mod_lt _ (by decide)⟩
def jY (c : Dev nD) (i : Fin 3) : Fin 3 := ⟨drow (iY i) (pe (iY i) c) / 128 % 3, Nat.mod_lt _ (by decide)⟩
theorem jA_inj : ∀ c : Dev nD, Function.Injective (jA c) := by decide +kernel
theorem jQ_inj : ∀ c : Dev nD, Function.Injective (jQ c) := by decide +kernel
theorem jZ_inj : ∀ c : Dev nD, Function.Injective (jZ c) := by decide +kernel
theorem jY_inj : ∀ c : Dev nD, Function.Injective (jY c) := by decide +kernel
theorem jA_eq : ∀ (c : Dev nD) (i : Fin 12), drow (iA i) (pe (iA i) c) = 0 + 96 * (jA c i).val := by decide +kernel
theorem jQ_eq : ∀ (c : Dev nD) (i : Fin 3), drow (iQ i) (pe (iQ i) c) = 0 + 32 * (jQ c i).val := by decide +kernel
theorem jZ_eq : ∀ (c : Dev nD) (i : Fin 3), drow (iZ i) (pe (iZ i) c) = 0 + 96 * (jZ c i).val := by decide +kernel
theorem jY_eq : ∀ (c : Dev nD) (i : Fin 3), drow (iY i) (pe (iY i) c) = 0 + 128 * (jY c i).val := by decide +kernel

/-- Where the peer's copy `k` lands. -/
def Pl (k : Fin 42) : sProp 𝕄 := PX (F := F) (cp k).b c (drow k (pe k c)) (cn k)

theorem In_Pl (k : Fin 42) : In x c k ⊢ Pl (F := F) c k := by
  unfold In Pl PX; iintro H; iexists _; iexact H

/-- All the landing places. -/
abbrev Pls : sProp 𝕄 :=
  iprop((Pl (F := F) c 0 ∗ Pl (F := F) c 1 ∗ Pl (F := F) c 2 ∗ Pl (F := F) c 5 ∗ Pl (F := F) c 6 ∗ Pl (F := F) c 7 ∗ Pl (F := F) c 8 ∗ Pl (F := F) c 9
      ∗ Pl (F := F) c 10 ∗ Pl (F := F) c 11 ∗ Pl (F := F) c 12 ∗ Pl (F := F) c 13)
    ∗ (Pl (F := F) c 18 ∗ Pl (F := F) c 19 ∗ Pl (F := F) c 20) ∗ (Pl (F := F) c 15 ∗ Pl (F := F) c 16 ∗ Pl (F := F) c 17)
    ∗ (Pl (F := F) c 3 ∗ Pl (F := F) c 4 ∗ Pl (F := F) c 14))

/-- The landing buffers, whole. -/
abbrev Wh : sProp 𝕄 := iprop(PX (F := F) .xyA c 0 1152 ∗ PX (F := F) .xyB c 0 96 ∗ PX (F := F) .zA c 0 288 ∗ PX (F := F) .zB c 0 384)

omit [FloatOps F] in
theorem cut : Wh (F := F) c ⊢ Pls (F := F) c :=
  BIClass.sep_mono ((PX_cut c .xyA 0 96 _ (jA c) (jA_inj c) (jA_eq c)).trans (Entails.of_eq (sep_twelve _)))
    (BIClass.sep_mono ((PX_cut c .xyB 0 32 _ (jQ c) (jQ_inj c) (jQ_eq c)).trans (Entails.of_eq (sep_three _)))
      (BIClass.sep_mono ((PX_cut c .zA 0 96 _ (jZ c) (jZ_inj c) (jZ_eq c)).trans (Entails.of_eq (sep_three _)))
        ((PX_cut c .zB 0 128 _ (jY c) (jY_inj c) (jY_eq c)).trans (Entails.of_eq (sep_three _)))))

omit [FloatOps F] in
theorem join : Pls (F := F) c ⊢ Wh (F := F) c :=
  BIClass.sep_mono ((Entails.of_eq (sep_twelve fun i => PX .xyA c (drow (iA i) (pe (iA i) c)) 96).symm).trans (PX_runs .xyA c 0 96 _ (jA c) (jA_inj c) (jA_eq c)))
    (BIClass.sep_mono ((Entails.of_eq (sep_three fun i => PX .xyB c (drow (iQ i) (pe (iQ i) c)) 32).symm).trans (PX_runs .xyB c 0 32 _ (jQ c) (jQ_inj c) (jQ_eq c)))
      (BIClass.sep_mono ((Entails.of_eq (sep_three fun i => PX .zA c (drow (iZ i) (pe (iZ i) c)) 96).symm).trans (PX_runs .zA c 0 96 _ (jZ c) (jZ_inj c) (jZ_eq c)))
        ((Entails.of_eq (sep_three fun i => PX .zB c (drow (iY i) (pe (iY i) c)) 128).symm).trans (PX_runs .zB c 0 128 _ (jY c) (jY_inj c) (jY_eq c)))))

omit [FloatOps F] in
theorem Pls_slots : Pls (F := F) c ⊢ bigSep Finset.univ fun k => slot (F := F) c k := by
  have h : (bigSep Finset.univ fun k => slot (F := F) c k) = bigSep (Finset.univ.filter Rs) fun k => Pl (F := F) c k := (bigSep_filter _ _ _).symm
  rw [h, show (Finset.univ.filter Rs : Finset (Fin 42)) = {0, 1, 2, 3, 4, 5, 6, 7, 8, 9, 10, 11, 12, 13, 14, 15, 16, 17, 18, 19, 20} by decide]
  iterate 20 rw [bigSep_insert (by decide)]
  rw [bigSep_singleton]
  show _ ⊢ iprop(Pl (F := F) c 0 ∗ Pl (F := F) c 1 ∗ Pl (F := F) c 2 ∗ Pl (F := F) c 3 ∗ Pl (F := F) c 4 ∗ Pl (F := F) c 5 ∗ Pl (F := F) c 6
    ∗ Pl (F := F) c 7 ∗ Pl (F := F) c 8 ∗ Pl (F := F) c 9 ∗ Pl (F := F) c 10 ∗ Pl (F := F) c 11 ∗ Pl (F := F) c 12 ∗ Pl (F := F) c 13
    ∗ Pl (F := F) c 14 ∗ Pl (F := F) c 15 ∗ Pl (F := F) c 16 ∗ Pl (F := F) c 17 ∗ Pl (F := F) c 18 ∗ Pl (F := F) c 19 ∗ Pl (F := F) c 20)
  iintro ⟨⟨H0, H1, H2, H5, H6, H7, H8, H9, H10, H11, H12, H13⟩, ⟨H18, H19, H20⟩, ⟨H15, H16, H17⟩, H3, H4, H14⟩
  iframe

end Cert.HierProof
-- ==== Proof.PartsA.lean ====
/- The body, first stretch: the copies of the first part leave and the first sums are made. -/
module

public import proofs.«01_k».proof.Proof.Pieces

@[expose] public section

set_option maxRecDepth 16384

noncomputable section

namespace Cert.HierProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → Fld F) (K : Dev nD × Option (Bool × Fin 42) → ℕ) (c : Dev nD)

theorem part4 {w1 w2 w3 w4 w5 w6 w7 w8 w9 w10 w11 w12 : BitVec 32} : iprop(Recs x K ∗ Led c 42 84 ∗ Src x c 0) ⊢
    WP c (ap (k0_part4 (F := F)) c w1 w2 w3 w4 w5 w6 w7 w8 w9 w10 w11 w12) fun _ => Led c 41 84 := by
  rw [k0_part4_eq_skeleton]
  unfold k0_part4_skel
  simp only [Prog.lift, Prog.bind_op, Prog.bind_ret, Prog.pure_eq_ret]
  iintro ⟨#HR, HL, S0⟩
  iapply (rs' x K c 0 .xyA 96 41 84) $$ HR HL S0
  iintro HL
  iapply fin
  iexact HL

theorem part5 {w1 w2 w3 w4 w5 w6 w7 : BitVec 32} : iprop(Recs x K ∗ Led c 41 84 ∗ Src x c 1 ∗ Src x c 2) ⊢
    WP c (ap (k0_part5 (F := F)) c w1 w2 w3 w4 w5 w6 w7) fun _ => Led c 39 84 := by
  rw [k0_part5_eq_skeleton]
  unfold k0_part5_skel
  simp only [Prog.lift, Prog.bind_op, Prog.bind_ret, Prog.pure_eq_ret]
  iintro ⟨#HR, HL, S1, S2⟩
  iapply (rs' x K c 1 .xyA 96 40 84) $$ HR HL S1
  iintro HL
  iapply (rs' x K c 2 .xyA 96 39 84) $$ HR HL S2
  iintro HL
  iapply fin
  iexact HL

theorem part6 {w1 w2 w3 w4 w5 w6 w7 w8 : BitVec 32} : iprop(Recs x K ∗ Led c 39 84 ∗ Src x c 3 ∗ Src x c 4) ⊢
    WP c (ap (k0_part6 (F := F)) c w1 w2 w3 w4 w5 w6 w7 w8) fun _ => Led c 37 84 := by
  rw [k0_part6_eq_skeleton]
  unfold k0_part6_skel
  simp only [Prog.lift, Prog.bind_op, Prog.bind_ret, Prog.pure_eq_ret]
  iintro ⟨#HR, HL, S3, S4⟩
  iapply (rs' x K c 3 .zB 128 38 84) $$ HR HL S3
  iintro HL
  iapply (rs' x K c 4 .zB 128 37 84) $$ HR HL S4
  iintro HL
  iapply fin
  iexact HL

theorem part7 {w1 w2 w3 w4 w5 w6 w7 w8 : BitVec 32} : iprop(Recs x K ∗ Led c 37 84 ∗ Src x c 5 ∗ Src x c 6) ⊢
    WP c (ap (k0_part7 (F := F)) c w1 w2 w3 w4 w5 w6 w7 w8) fun _ => Led c 35 84 := by
  rw [k0_part7_eq_skeleton]
  unfold k0_part7_skel
  simp only [Prog.lift, Prog.bind_op, Prog.bind_ret, Prog.pure_eq_ret]
  iintro ⟨#HR, HL, S5, S6⟩
  iapply (rs' x K c 5 .xyA 96 36 84) $$ HR HL S5
  iintro HL
  iapply (rs' x K c 6 .xyA 96 35 84) $$ HR HL S6
  iintro HL
  iapply fin
  iexact HL

theorem part8 {w1 w2 w3 w4 w5 w6 w7 w8 w9 : BitVec 32} : iprop(Recs x K ∗ Led c 35 84 ∗ Src x c 7 ∗ Src x c 8) ⊢
    WP c (ap (k0_part8 (F := F)) c w1 w2 w3 w4 w5 w6 w7 w8 w9) fun _ => Led c 33 84 := by
  rw [k0_part8_eq_skeleton]
  unfold k0_part8_skel
  simp only [Prog.lift, Prog.bind_op, Prog.bind_ret, Prog.pure_eq_ret]
  iintro ⟨#HR, HL, S7, S8⟩
  iapply (rs' x K c 7 .xyA 96 34 84) $$ HR HL S7
  iintro HL
  iapply (rs' x K c 8 .xyA 96 33 84) $$ HR HL S8
  iintro HL
  iapply fin
  iexact HL

theorem part9 {w1 w2 w3 w4 w5 w6 w7 w8 : BitVec 32} : iprop(Recs x K ∗ Led c 33 84 ∗ Src x c 9) ⊢
    WP c (ap (k0_part9 (F := F)) c w1 w2 w3 w4 w5 w6 w7 w8) fun _ => Led c 32 84 := by
  rw [k0_part9_eq_skeleton]
  unfold k0_part9_skel
  simp only [Prog.lift, Prog.bind_op, Prog.bind_ret, Prog.pure_eq_ret]
  iintro ⟨#HR, HL, S9⟩
  iapply (rs' x K c 9 .xyA 96 32 84) $$ HR HL S9
  iintro HL
  iapply fin
  iexact HL

theorem part10 {w1 w2 w3 w4 w5 w6 w7 w8 : BitVec 32} : iprop(Recs x K ∗ Led c 32 84 ∗ Src x c 10 ∗ Src x c 11) ⊢
    WP c (ap (k0_part10 (F := F)) c w1 w2 w3 w4 w5 w6 w7 w8) fun _ => Led c 30 84 := by
  rw [k0_part10_eq_skeleton]
  unfold k0_part10_skel
  simp only [Prog.lift, Prog.bind_op, Prog.bind_ret, Prog.pure_eq_ret]
  iintro ⟨#HR, HL, S10, S11⟩
  iapply (rs' x K c 10 .xyA 96 31 84) $$ HR HL S10
  iintro HL
  iapply (rs' x K c 11 .xyA 96 30 84) $$ HR HL S11
  iintro HL
  iapply fin
  iexact HL

theorem part11 {w1 w2 w3 w4 w5 : BitVec 32} : iprop(Recs x K ∗ Led c 30 84 ∗ Src x c 12 ∗ Src x c 13) ⊢
    WP c (ap (k0_part11 (F := F)) c w1 w2 w3 w4 w5) fun _ => Led c 28 83 := by
  rw [k0_part11_eq_skeleton]
  unfold k0_part11_skel
  simp only [Prog.lift, Prog.bind_op, Prog.bind_ret, Prog.pure_eq_ret]
  iintro ⟨#HR, HL, S12, S13⟩
  iapply (rs' x K c 12 .xyA 96 29 84) $$ HR HL S12
  iintro HL
  iapply (rs' x K c 13 .xyA 96 28 84) $$ HR HL S13
  iintro HL
  iapply (ws' x K c 3 .acc 128 28 83) $$ HR HL
  iintro HL
  iapply fin
  iexact HL

theorem part12 {w1 w2 w3 w4 w5 w6 : BitVec 32} : iprop(Recs x K ∗ Led c 28 83 ∗ OB c 2 (x c)) ⊢
    WP c (ap (k0_part12 (F := F)) c w1 w2 w3 w4 w5 w6) fun _ => iprop(Led c 28 82 ∗ In x c 3 ∗ Ln (F := F) c 3 ∗ Src x c 14) := by
  rw [k0_part12_eq_skeleton]
  unfold k0_part12_skel
  simp only [Prog.lift, Prog.bind_op, Prog.bind_ret, Prog.pure_eq_ret]
  iintro ⟨#HR, HL, B2⟩
  iapply (wr' x K c 3 .zB 128 28 82) $$ HR HL
  iintro HL I3 N3
  iapply (wp_ld .acc (off21_eq c) _ c fullShare (x c)) $$ B2
  iintro B2
  iapply (ldi x c 3 .zB 128 (rB (fl 2 c)) (srow_pe c 3)) $$ I3
  iintro I3
  iapply (wp_ld .acc (off21_eq c) _ c fullShare (x c)) $$ B2
  iintro B2
  iapply (wp_st .acc (off21_eq c) _ c (x c) (vU1 x c) (pay2 _ _ _)) $$ B2
  iintro B2
  ihave S14 := (Entails.of_eq (src14 x c)) $$ B2
  iapply fin
  iframe

theorem part13 {w1 w2 w3 : BitVec 32} : iprop(Recs x K ∗ Led c 28 82 ∗ Src x c 14) ⊢
    WP c (ap (k0_part13 (F := F)) c w1 w2 w3) fun _ => iprop(Led c 27 80 ∗ In x c 0 ∗ Ln (F := F) c 0) := by
  rw [k0_part13_eq_skeleton]
  unfold k0_part13_skel
  simp only [Prog.lift, Prog.bind_op, Prog.bind_ret, Prog.pure_eq_ret]
  iintro ⟨#HR, HL, S14⟩
  iapply (rs' x K c 14 .zB 128 27 82) $$ HR HL S14
  iintro HL
  iapply (ws' x K c 0 .acc 96 27 81) $$ HR HL
  iintro HL
  iapply (wr' x K c 0 .xyA 96 27 80) $$ HR HL
  iintro HL I0 N0
  iapply fin
  iframe

theorem part14 {w1 w2 w3 w4 w5 : BitVec 32} : iprop(Recs x K ∗ Led c 27 80) ⊢
    WP c (ap (k0_part14 (F := F)) c w1 w2 w3 w4 w5) fun _ => iprop(Led c 27 77 ∗ In x c 1 ∗ Ln (F := F) c 1) := by
  rw [k0_part14_eq_skeleton]
  unfold k0_part14_skel
  simp only [Prog.lift, Prog.bind_op, Prog.bind_ret, Prog.pure_eq_ret]
  iintro ⟨#HR, HL⟩
  iapply (ws' x K c 1 .acc 96 27 79) $$ HR HL
  iintro HL
  iapply (wr' x K c 1 .xyA 96 27 78) $$ HR HL
  iintro HL I1 N1
  iapply (ws' x K c 2 .acc 96 27 77) $$ HR HL
  iintro HL
  iapply fin
  iframe

theorem part15 {w1 w2 w3 w4 w5 w6 : BitVec 32} : iprop(Recs x K ∗ Led c 27 77 ∗ OA c 3 (x c) ∗ In x c 0 ∗ In x c 1) ⊢
    WP c (ap (k0_part15 (F := F)) c w1 w2 w3 w4 w5 w6) fun _ => iprop(Led c 27 76 ∗ In x c 2 ∗ Ln (F := F) c 2 ∗ In x c 0 ∗ In x c 1 ∗ Src x c 15) := by
  rw [k0_part15_eq_skeleton]
  unfold k0_part15_skel
  simp only [Prog.lift, Prog.bind_op, Prog.bind_ret, Prog.pure_eq_ret]
  iintro ⟨#HR, HL, A3, I0, I1⟩
  iapply (wr' x K c 2 .xyA 96 27 76) $$ HR HL
  iintro HL I2 N2
  iapply (wp_ld .acc (off24_eq c) _ c fullShare (x c)) $$ A3
  iintro A3
  iapply (ldi x c 0 .xyA 96 (rA (fl 3 c)) (srow_pe c 0)) $$ I0
  iintro I0
  iapply (ldi x c 1 .xyA 96 (rA (fl 3 c)) (srow_pe c 1)) $$ I1
  iintro I1
  iapply (ldi x c 2 .xyA 96 (rA (fl 3 c)) (srow_pe c 2)) $$ I2
  iintro I2
  iapply (wp_ld .acc (off24_eq c) _ c fullShare (x c)) $$ A3
  iintro A3
  iapply (wp_st .acc (off24_eq c) _ c (x c) (vS x c) (pay3 _ _ _ _ _)) $$ A3
  iintro A3
  ihave S15 := (Entails.of_eq (src15 x c)) $$ A3
  iapply fin
  iframe

end Cert.HierProof
-- ==== Proof.PartsB.lean ====
/- The body, second stretch: the sums along z. -/
module

public import proofs.«01_k».proof.Proof.Pieces

@[expose] public section

set_option maxRecDepth 16384

noncomputable section

namespace Cert.HierProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → Fld F) (K : Dev nD × Option (Bool × Fin 42) → ℕ) (c : Dev nD)

theorem part16 {w1 w2 w3 w4 w5 : BitVec 32} : iprop(Recs x K ∗ Led c 27 76 ∗ Src x c 15 ∗ OB c 0 (x c)) ⊢
    WP c (ap (k0_part16 (F := F)) c w1 w2 w3 w4 w5) fun r => iprop(⌜r = blk 128 (rB (fl 0 c)) (vU1 x c)⌝ ∗ Led c 26 74 ∗ In x c 4 ∗ Ln (F := F) c 4 ∗ OB c 0 (x c)) := by
  rw [k0_part16_eq_skeleton]
  unfold k0_part16_skel
  simp only [Prog.lift, Prog.bind_op, Prog.bind_ret, Prog.pure_eq_ret]
  iintro ⟨#HR, HL, S15, B0⟩
  iapply (rs' x K c 15 .zA 96 26 76) $$ HR HL S15
  iintro HL
  iapply (ws' x K c 4 .acc 128 26 75) $$ HR HL
  iintro HL
  iapply (wr' x K c 4 .zB 128 26 74) $$ HR HL
  iintro HL I4 N4
  iapply (wp_ld .acc (off28_eq c) _ c fullShare (x c)) $$ B0
  iintro B0
  iapply (ldi x c 4 .zB 128 (rB (fl 0 c)) (srow_pe c 4)) $$ I4
  iintro I4
  iapply fin
  isplitl []
  · ipureintro; exact pay4 _ _ _
  iframe

theorem part17 {w1 w2 w3 : BitVec 32} : iprop(Recs x K ∗ Led c 26 74 ∗ OB c 0 (x c)) ⊢
    WP c (ap (k0_part17 (F := F)) c w1 w2 w3 (blk 128 (rB (fl 0 c)) (vU1 x c))) fun _ => iprop(Led c 26 71 ∗ OB c 0 (vU1 x c) ∗ In x c 5 ∗ Ln (F := F) c 5) := by
  rw [k0_part17_eq_skeleton]
  unfold k0_part17_skel
  simp only [Prog.lift, Prog.bind_op, Prog.bind_ret, Prog.pure_eq_ret]
  iintro ⟨#HR, HL, B0⟩
  iapply (wp_ld .acc (off28_eq c) _ c fullShare (x c)) $$ B0
  iintro B0
  iapply (wp_st .acc (off28_eq c) _ c (x c) (vU1 x c) (rfl)) $$ B0
  iintro B0
  iapply (ws' x K c 5 .acc 96 26 73) $$ HR HL
  iintro HL
  iapply (wr' x K c 5 .xyA 96 26 72) $$ HR HL
  iintro HL I5 N5
  iapply (ws' x K c 6 .acc 96 26 71) $$ HR HL
  iintro HL
  iapply fin
  iframe

theorem part18 {w1 w2 w3 w4 w5 : BitVec 32} : iprop(Recs x K ∗ Led c 26 71) ⊢
    WP c (ap (k0_part18 (F := F)) c w1 w2 w3 w4 w5) fun _ => iprop(Led c 26 69 ∗ In x c 6 ∗ Ln (F := F) c 6) := by
  rw [k0_part18_eq_skeleton]
  unfold k0_part18_skel
  simp only [Prog.lift, Prog.bind_op, Prog.bind_ret, Prog.pure_eq_ret]
  iintro ⟨#HR, HL⟩
  iapply (wr' x K c 6 .xyA 96 26 70) $$ HR HL
  iintro HL I6 N6
  iapply (ws' x K c 7 .acc 96 26 69) $$ HR HL
  iintro HL
  iapply fin
  iframe

theorem part19 {w1 w2 w3 w4 w5 : BitVec 32} : iprop(Recs x K ∗ Led c 26 69 ∗ OA c 2 (x c) ∗ In x c 5) ⊢
    WP c (ap (k0_part19 (F := F)) c w1 w2 w3 w4 w5) fun r => iprop(⌜r = blk 96 (rA (fl 2 c)) (pl (x c) (x (pe 5 c)))⌝ ∗ Led c 26 66 ∗ In x c 7 ∗ Ln (F := F) c 7 ∗ In x c 15 ∗ Ln (F := F) c 15 ∗ OA c 2 (x c) ∗ In x c 5) := by
  rw [k0_part19_eq_skeleton]
  unfold k0_part19_skel
  simp only [Prog.lift, Prog.bind_op, Prog.bind_ret, Prog.pure_eq_ret]
  iintro ⟨#HR, HL, A2, I5⟩
  iapply (wr' x K c 7 .xyA 96 26 68) $$ HR HL
  iintro HL I7 N7
  iapply (ws' x K c 15 .acc 96 26 67) $$ HR HL
  iintro HL
  iapply (wr' x K c 15 .zA 96 26 66) $$ HR HL
  iintro HL I15 N15
  iapply (wp_ld .acc (off30_eq c) _ c fullShare (x c)) $$ A2
  iintro A2
  iapply (ldi x c 5 .xyA 96 (rA (fl 2 c)) (srow_pe c 5)) $$ I5
  iintro I5
  iapply fin
  isplitl []
  · ipureintro; exact pay5 _ _ _
  iframe

theorem part20 {w1 w2 w3 w4 w5 w6 : BitVec 32} : iprop(Recs x K ∗ Led c 26 66 ∗ In x c 6 ∗ In x c 7 ∗ In x c 15 ∗ OA c 2 (x c)) ⊢
    WP c (ap (k0_part20 (F := F)) c w1 w2 w3 w4 w5 w6 (blk 96 (rA (fl 2 c)) (pl (x c) (x (pe 5 c))))) fun _ => iprop(Led c 25 66 ∗ In x c 6 ∗ In x c 7 ∗ In x c 15) := by
  rw [k0_part20_eq_skeleton]
  unfold k0_part20_skel
  simp only [Prog.lift, Prog.bind_op, Prog.bind_ret, Prog.pure_eq_ret]
  iintro ⟨#HR, HL, I6, I7, I15, A2⟩
  iapply (ldi x c 6 .xyA 96 (rA (fl 2 c)) (srow_pe c 6)) $$ I6
  iintro I6
  iapply (ldi x c 7 .xyA 96 (rA (fl 2 c)) (srow_pe c 7)) $$ I7
  iintro I7
  iapply (ldi x c 15 .zA 96 (rA (fl 2 c)) (srow_pe c 15)) $$ I15
  iintro I15
  iapply (wp_ld .acc (off30_eq c) _ c fullShare (x c)) $$ A2
  iintro A2
  iapply (wp_st .acc (off30_eq c) _ c (x c) (vT x c) (pay6 _ _ _ _ _)) $$ A2
  iintro A2
  ihave S16 := (Entails.of_eq (src16 x c)) $$ A2
  iapply (rs' x K c 16 .zA 96 25 66) $$ HR HL S16
  iintro HL
  iapply fin
  iframe

theorem part21 {w1 w2 w3 w4 : BitVec 32} : iprop(Recs x K ∗ Led c 25 66) ⊢
    WP c (ap (k0_part21 (F := F)) c w1 w2 w3 w4) fun _ => iprop(Led c 25 63 ∗ In x c 8 ∗ Ln (F := F) c 8) := by
  rw [k0_part21_eq_skeleton]
  unfold k0_part21_skel
  simp only [Prog.lift, Prog.bind_op, Prog.bind_ret, Prog.pure_eq_ret]
  iintro ⟨#HR, HL⟩
  iapply (ws' x K c 8 .acc 96 25 65) $$ HR HL
  iintro HL
  iapply (wr' x K c 8 .xyA 96 25 64) $$ HR HL
  iintro HL I8 N8
  iapply (ws' x K c 9 .acc 96 25 63) $$ HR HL
  iintro HL
  iapply fin
  iframe

theorem part22 {w1 w2 w3 w4 w5 w6 w7 : BitVec 32} : iprop(Recs x K ∗ Led c 25 63 ∗ OA c 1 (x c)) ⊢
    WP c (ap (k0_part22 (F := F)) c w1 w2 w3 w4 w5 w6 w7) fun r => iprop(⌜r.1 = blk 96 (rA (fl 1 c)) (x c)⌝ ∗ Led c 25 60 ∗ In x c 9 ∗ Ln (F := F) c 9 ∗ In x c 10 ∗ Ln (F := F) c 10 ∗ OA c 1 (x c)) := by
  rw [k0_part22_eq_skeleton]
  unfold k0_part22_skel
  simp only [Prog.lift, Prog.bind_op, Prog.bind_ret, Prog.pure_eq_ret]
  iintro ⟨#HR, HL, A1⟩
  iapply (wr' x K c 9 .xyA 96 25 62) $$ HR HL
  iintro HL I9 N9
  iapply (ws' x K c 10 .acc 96 25 61) $$ HR HL
  iintro HL
  iapply (wr' x K c 10 .xyA 96 25 60) $$ HR HL
  iintro HL I10 N10
  iapply (wp_ld .acc (off34_eq c) _ c fullShare (x c)) $$ A1
  iintro A1
  iapply fin
  isplitl []
  · ipureintro; exact pay7 _ (x c)
  iframe

theorem part23 {w1 w2 w3 w4 w5 w6 w7 : BitVec 32} : iprop(Recs x K ∗ Led c 25 60 ∗ In x c 8 ∗ In x c 9 ∗ In x c 10 ∗ OA c 1 (x c)) ⊢
    WP c (ap (k0_part23 (F := F)) c w1 w2 w3 w4 w5 w6 (blk 96 (rA (fl 1 c)) (x c)) w7) fun _ => iprop(Led c 24 60 ∗ In x c 8 ∗ In x c 9 ∗ In x c 10) := by
  rw [k0_part23_eq_skeleton]
  unfold k0_part23_skel
  simp only [Prog.lift, Prog.bind_op, Prog.bind_ret, Prog.pure_eq_ret]
  iintro ⟨#HR, HL, I8, I9, I10, A1⟩
  iapply (ldi x c 8 .xyA 96 (rA (fl 1 c)) (srow_pe c 8)) $$ I8
  iintro I8
  iapply (ldi x c 9 .xyA 96 (rA (fl 1 c)) (srow_pe c 9)) $$ I9
  iintro I9
  iapply (ldi x c 10 .xyA 96 (rA (fl 1 c)) (srow_pe c 10)) $$ I10
  iintro I10
  iapply (wp_ld .acc (off34_eq c) _ c fullShare (x c)) $$ A1
  iintro A1
  iapply (wp_st .acc (off34_eq c) _ c (x c) (vS x c) (pay8 _ _ _ _ _)) $$ A1
  iintro A1
  ihave S17 := (Entails.of_eq (src17 x c)) $$ A1
  iapply (rs' x K c 17 .zA 96 24 60) $$ HR HL S17
  iintro HL
  iapply fin
  iframe

theorem part24 {w1 w2 w3 w4 w5 w6 : BitVec 32} : iprop(Recs x K ∗ Led c 24 60 ∗ OB c 0 (vU1 x c)) ⊢
    WP c (ap (k0_part24 (F := F)) c w1 w2 w3 w4 w5 w6) fun _ => iprop(Led c 24 58 ∗ In x c 14 ∗ Ln (F := F) c 14 ∗ OB c 0 (vU2 x c)) := by
  rw [k0_part24_eq_skeleton]
  unfold k0_part24_skel
  simp only [Prog.lift, Prog.bind_op, Prog.bind_ret, Prog.pure_eq_ret]
  iintro ⟨#HR, HL, B0⟩
  iapply (ws' x K c 14 .acc 128 24 59) $$ HR HL
  iintro HL
  iapply (wr' x K c 14 .zB 128 24 58) $$ HR HL
  iintro HL I14 N14
  iapply (wp_ld .acc (off28_eq c) _ c fullShare (vU1 x c)) $$ B0
  iintro B0
  iapply (ldi x c 14 .zB 128 (rB (fl 0 c)) (srow_pe c 14)) $$ I14
  iintro I14
  iapply (wp_ld .acc (off28_eq c) _ c fullShare (vU1 x c)) $$ B0
  iintro B0
  iapply (wp_st .acc (off28_eq c) _ c (vU1 x c) (vU2 x c) (pay9 _ _ _)) $$ B0
  iintro B0
  iapply fin
  iframe

end Cert.HierProof
-- ==== Proof.PartsC.lean ====
/- The body, third stretch: the finished rows, and their first copies out. -/
module

public import proofs.«01_k».proof.Proof.Pieces

@[expose] public section

set_option maxRecDepth 16384

noncomputable section

namespace Cert.HierProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → Fld F) (K : Dev nD × Option (Bool × Fin 42) → ℕ) (c : Dev nD)

theorem part25 {w1 w2 w3 w4 w5 w6 w7 w8 : BitVec 32} : iprop(Recs x K ∗ Led c 24 58 ∗ Src x c 18 ∗ Src x c 19) ⊢
    WP c (ap (k0_part25 (F := F)) c w1 w2 w3 w4 w5 w6 w7 w8) fun _ => Led c 22 58 := by
  rw [k0_part25_eq_skeleton]
  unfold k0_part25_skel
  simp only [Prog.lift, Prog.bind_op, Prog.bind_ret, Prog.pure_eq_ret]
  iintro ⟨#HR, HL, S18, S19⟩
  iapply (rs' x K c 18 .xyB 32 23 58) $$ HR HL S18
  iintro HL
  iapply (rs' x K c 19 .xyB 32 22 58) $$ HR HL S19
  iintro HL
  iapply fin
  iexact HL

theorem part26 {w1 w2 w3 w4 w5 : BitVec 32} : iprop(Recs x K ∗ Led c 22 58 ∗ Src x c 20) ⊢
    WP c (ap (k0_part26 (F := F)) c w1 w2 w3 w4 w5) fun _ => Led c 21 57 := by
  rw [k0_part26_eq_skeleton]
  unfold k0_part26_skel
  simp only [Prog.lift, Prog.bind_op, Prog.bind_ret, Prog.pure_eq_ret]
  iintro ⟨#HR, HL, S20⟩
  iapply (rs' x K c 20 .xyB 32 21 58) $$ HR HL S20
  iintro HL
  iapply (ws' x K c 11 .acc 96 21 57) $$ HR HL
  iintro HL
  iapply fin
  iexact HL

theorem part27 {w1 w2 w3 : BitVec 32} : iprop(Recs x K ∗ Led c 21 57) ⊢
    WP c (ap (k0_part27 (F := F)) c w1 w2 w3) fun _ => iprop(Led c 21 54 ∗ In x c 11 ∗ Ln (F := F) c 11 ∗ In x c 12 ∗ Ln (F := F) c 12) := by
  rw [k0_part27_eq_skeleton]
  unfold k0_part27_skel
  simp only [Prog.lift, Prog.bind_op, Prog.bind_ret, Prog.pure_eq_ret]
  iintro ⟨#HR, HL⟩
  iapply (wr' x K c 11 .xyA 96 21 56) $$ HR HL
  iintro HL I11 N11
  iapply (ws' x K c 12 .acc 96 21 55) $$ HR HL
  iintro HL
  iapply (wr' x K c 12 .xyA 96 21 54) $$ HR HL
  iintro HL I12 N12
  iapply fin
  iframe

theorem part28 {w1 w2 w3 w4 w5 w6 : BitVec 32} : iprop(Recs x K ∗ Led c 21 54) ⊢
    WP c (ap (k0_part28 (F := F)) c w1 w2 w3 w4 w5 w6) fun _ => iprop(Led c 21 51 ∗ In x c 13 ∗ Ln (F := F) c 13) := by
  rw [k0_part28_eq_skeleton]
  unfold k0_part28_skel
  simp only [Prog.lift, Prog.bind_op, Prog.bind_ret, Prog.pure_eq_ret]
  iintro ⟨#HR, HL⟩
  iapply (ws' x K c 13 .acc 96 21 53) $$ HR HL
  iintro HL
  iapply (wr' x K c 13 .xyA 96 21 52) $$ HR HL
  iintro HL I13 N13
  iapply (ws' x K c 17 .acc 96 21 51) $$ HR HL
  iintro HL
  iapply fin
  iframe

theorem part29 {w1 w2 w3 w4 w5 : BitVec 32} : iprop(Recs x K ∗ Led c 21 51 ∗ OA c 0 (x c) ∗ In x c 11) ⊢
    WP c (ap (k0_part29 (F := F)) c w1 w2 w3 w4 w5) fun r => iprop(⌜r.2.1 = blk 96 (rA (fl 0 c)) (x c)⌝ ∗ ⌜r.2.2 = blk 96 (rA (fl 0 c)) (x (pe 11 c))⌝ ∗ Led c 21 48 ∗ In x c 17 ∗ Ln (F := F) c 17 ∗ In x c 16 ∗ Ln (F := F) c 16 ∗ OA c 0 (x c) ∗ In x c 11) := by
  rw [k0_part29_eq_skeleton]
  unfold k0_part29_skel
  simp only [Prog.lift, Prog.bind_op, Prog.bind_ret, Prog.pure_eq_ret]
  iintro ⟨#HR, HL, A0, I11⟩
  iapply (wr' x K c 17 .zA 96 21 50) $$ HR HL
  iintro HL I17 N17
  iapply (ws' x K c 16 .acc 96 21 49) $$ HR HL
  iintro HL
  iapply (wr' x K c 16 .zA 96 21 48) $$ HR HL
  iintro HL I16 N16
  iapply (wp_ld .acc (off41_eq c) _ c fullShare (x c)) $$ A0
  iintro A0
  iapply (ldi x c 11 .xyA 96 (rA (fl 0 c)) (srow_pe c 11)) $$ I11
  iintro I11
  iapply fin
  isplitl []
  · ipureintro; exact pay10 _ (x c)
  isplitl []
  · ipureintro; exact rfl
  iframe

theorem part30 {w1 w2 w3 w4 w5 w6 : BitVec 32} : iprop(Recs x K ∗ Led c 21 48 ∗ In x c 12 ∗ In x c 13 ∗ In x c 17 ∗ In x c 16 ∗ OA c 0 (x c) ∗ Ln (F := F) c 11) ⊢
    WP c (ap (k0_part30 (F := F)) c w1 w2 w3 w4 w5 w6 (blk 96 (rA (fl 0 c)) (x c)) (blk 96 (rA (fl 0 c)) (x (pe 11 c)))) fun _ => iprop(Led c 20 48 ∗ In x c 12 ∗ In x c 13 ∗ In x c 17 ∗ In x c 16 ∗ Sh x c 22 ∗ Sh x c 23 ∗ Sh x c 24 ∗ Sh x c 25) := by
  rw [k0_part30_eq_skeleton]
  unfold k0_part30_skel
  simp only [Prog.lift, Prog.bind_op, Prog.bind_ret, Prog.pure_eq_ret]
  iintro ⟨#HR, HL, I12, I13, I17, I16, A0, N11⟩
  iapply (ldi x c 12 .xyA 96 (rA (fl 0 c)) (srow_pe c 12)) $$ I12
  iintro I12
  iapply (ldi x c 13 .xyA 96 (rA (fl 0 c)) (srow_pe c 13)) $$ I13
  iintro I13
  iapply (ldi x c 17 .zA 96 (rA (fl 0 c)) (srow_pe c 17)) $$ I17
  iintro I17
  iapply (ldi x c 16 .zA 96 (rA (fl 0 c)) (srow_pe c 16)) $$ I16
  iintro I16
  iapply (wp_ld .acc (off41_eq c) _ c fullShare (x c)) $$ A0
  iintro A0
  iapply (wp_st .acc (off41_eq c) _ c (x c) (vG x) ((pay11 _ _ _ _ _ _ _).trans (blkA0 x c))) $$ A0
  iintro A0
  ihave HH := (Entails.of_eq (sharesA x c)) $$ A0
  icases HH with ⟨H21, H22, H23, H24, H25⟩
  iapply (ag' x K c 21 11 96 20 48) $$ HR HL H21 N11
  iintro HL
  iapply fin
  iframe

theorem part31 {w1 w2 w3 w4 w5 : BitVec 32} : iprop(Recs x K ∗ Led c 20 48 ∗ Sh x c 22 ∗ Ln (F := F) c 12 ∗ Sh x c 23 ∗ Ln (F := F) c 13) ⊢
    WP c (ap (k0_part31 (F := F)) c w1 w2 w3 w4 w5) fun _ => Led c 18 48 := by
  rw [k0_part31_eq_skeleton]
  unfold k0_part31_skel
  simp only [Prog.lift, Prog.bind_op, Prog.bind_ret, Prog.pure_eq_ret]
  iintro ⟨#HR, HL, H22, N12, H23, N13⟩
  iapply (ag' x K c 22 12 96 19 48) $$ HR HL H22 N12
  iintro HL
  iapply (ag' x K c 23 13 96 18 48) $$ HR HL H23 N13
  iintro HL
  iapply fin
  iexact HL

theorem part32 {w1 w2 w3 w4 w5 : BitVec 32} : iprop(Recs x K ∗ Led c 18 48 ∗ Sh x c 24 ∗ Ln (F := F) c 16 ∗ Sh x c 25 ∗ Ln (F := F) c 17) ⊢
    WP c (ap (k0_part32 (F := F)) c w1 w2 w3 w4 w5) fun _ => Led c 16 47 := by
  rw [k0_part32_eq_skeleton]
  unfold k0_part32_skel
  simp only [Prog.lift, Prog.bind_op, Prog.bind_ret, Prog.pure_eq_ret]
  iintro ⟨#HR, HL, H24, N16, H25, N17⟩
  iapply (ag' x K c 24 16 96 17 48) $$ HR HL H24 N16
  iintro HL
  iapply (ag' x K c 25 17 96 16 48) $$ HR HL H25 N17
  iintro HL
  iapply (ws' x K c 18 .acc 32 16 47) $$ HR HL
  iintro HL
  iapply fin
  iexact HL

theorem part33 {w1 w2 w3 w4 w5 : BitVec 32} : iprop(Recs x K ∗ Led c 16 47) ⊢
    WP c (ap (k0_part33 (F := F)) c w1 w2 w3 w4 w5) fun _ => iprop(Led c 16 45 ∗ In x c 18 ∗ Ln (F := F) c 18) := by
  rw [k0_part33_eq_skeleton]
  unfold k0_part33_skel
  simp only [Prog.lift, Prog.bind_op, Prog.bind_ret, Prog.pure_eq_ret]
  iintro ⟨#HR, HL⟩
  iapply (wr' x K c 18 .xyB 32 16 46) $$ HR HL
  iintro HL I18 N18
  iapply (ws' x K c 19 .acc 32 16 45) $$ HR HL
  iintro HL
  iapply fin
  iframe

theorem part34 {w1 w2 w3 w4 w5 : BitVec 32} : iprop(Recs x K ∗ Led c 16 45 ∗ OQ c 0 (vU2 x c)) ⊢
    WP c (ap (k0_part34 (F := F)) c w1 w2 w3 w4 w5) fun r => iprop(⌜r.2 = blk 32 (rQ (fl 0 c)) (vU2 x c)⌝ ∗ Led c 16 42 ∗ In x c 19 ∗ Ln (F := F) c 19 ∗ In x c 20 ∗ Ln (F := F) c 20 ∗ OQ c 0 (vU2 x c)) := by
  rw [k0_part34_eq_skeleton]
  unfold k0_part34_skel
  simp only [Prog.lift, Prog.bind_op, Prog.bind_ret, Prog.pure_eq_ret]
  iintro ⟨#HR, HL, Q0⟩
  iapply (wr' x K c 19 .xyB 32 16 44) $$ HR HL
  iintro HL I19 N19
  iapply (ws' x K c 20 .acc 32 16 43) $$ HR HL
  iintro HL
  iapply (wr' x K c 20 .xyB 32 16 42) $$ HR HL
  iintro HL I20 N20
  iapply (wp_ld .acc (off45_eq c) _ c fullShare (vU2 x c)) $$ Q0
  iintro Q0
  iapply fin
  isplitl []
  · ipureintro; exact pay12 _ (vU2 x c)
  iframe

theorem part35 {w1 w2 w3 w4 w5 w6 : BitVec 32} : iprop(Recs x K ∗ Led c 16 42 ∗ In x c 18 ∗ In x c 19 ∗ In x c 20 ∗ OQ c 0 (vU2 x c) ∗ Ln (F := F) c 18) ⊢
    WP c (ap (k0_part35 (F := F)) c w1 w2 w3 w4 w5 w6 (blk 32 (rQ (fl 0 c)) (vU2 x c))) fun _ => iprop(Led c 15 42 ∗ In x c 18 ∗ In x c 19 ∗ In x c 20 ∗ Sh x c 27 ∗ Sh x c 28) := by
  rw [k0_part35_eq_skeleton]
  unfold k0_part35_skel
  simp only [Prog.lift, Prog.bind_op, Prog.bind_ret, Prog.pure_eq_ret]
  iintro ⟨#HR, HL, I18, I19, I20, Q0, N18⟩
  iapply (ldi x c 18 .xyB 32 (rQ (fl 0 c)) (srow_pe c 18)) $$ I18
  iintro I18
  iapply (ldi x c 19 .xyB 32 (rQ (fl 0 c)) (srow_pe c 19)) $$ I19
  iintro I19
  iapply (ldi x c 20 .xyB 32 (rQ (fl 0 c)) (srow_pe c 20)) $$ I20
  iintro I20
  iapply (wp_ld .acc (off45_eq c) _ c fullShare (vU2 x c)) $$ Q0
  iintro Q0
  iapply (wp_st .acc (off45_eq c) _ c (vU2 x c) (vG x) ((pay13 _ _ _ _ _).trans (blkQ0 x c))) $$ Q0
  iintro Q0
  ihave HH := (Entails.of_eq (sharesQ x c)) $$ Q0
  icases HH with ⟨H26, H27, H28⟩
  iapply (ag' x K c 26 18 32 15 42) $$ HR HL H26 N18
  iintro HL
  iapply fin
  iframe

end Cert.HierProof
-- ==== Proof.PartsD.lean ====
/- The body, fourth stretch: finished rows passed on. -/
module

public import proofs.«01_k».proof.Proof.Pieces

@[expose] public section

set_option maxRecDepth 16384

noncomputable section

namespace Cert.HierProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → Fld F) (K : Dev nD × Option (Bool × Fin 42) → ℕ) (c : Dev nD)

theorem part36 {w1 w2 w3 : BitVec 32} : iprop(Recs x K ∗ Led c 15 42 ∗ Sh x c 27 ∗ Ln (F := F) c 19 ∗ Sh x c 28 ∗ Ln (F := F) c 20) ⊢
    WP c (ap (k0_part36 (F := F)) c w1 w2 w3) fun _ => iprop(Led c 13 41 ∗ Sh x c 24) := by
  rw [k0_part36_eq_skeleton]
  unfold k0_part36_skel
  simp only [Prog.lift, Prog.bind_op, Prog.bind_ret, Prog.pure_eq_ret]
  iintro ⟨#HR, HL, H27, N19, H28, N20⟩
  iapply (ag' x K c 27 19 32 14 42) $$ HR HL H27 N19
  iintro HL
  iapply (ag' x K c 28 20 32 13 42) $$ HR HL H28 N20
  iintro HL
  iapply (wsg' x K c 24 96 13 41) $$ HR HL
  iintro HL H24
  iapply fin
  iframe

theorem part37 {w1 w2 w3 w4 w5 w6 w7 w8 w9 : BitVec 32} : iprop(Recs x K ∗ Led c 13 41 ∗ Ln (F := F) c 5) ⊢
    WP c (ap (k0_part37 (F := F)) c w1 w2 w3 w4 w5 w6 w7 w8 w9) fun _ => iprop(Led c 12 40 ∗ Sh x c 30 ∗ Sh x c 31 ∗ Sh x c 32) := by
  rw [k0_part37_eq_skeleton]
  unfold k0_part37_skel
  simp only [Prog.lift, Prog.bind_op, Prog.bind_ret, Prog.pure_eq_ret]
  iintro ⟨#HR, HL, N5⟩
  iapply (wrg' x K c 24 96 13 40) $$ HR HL
  iintro HL G24
  ihave HH := (Entails.of_eq ((gt24 x c).trans (shares2 x c))) $$ G24
  icases HH with ⟨H29, H30, H31, H32⟩
  iapply (ag' x K c 29 5 96 12 40) $$ HR HL H29 N5
  iintro HL
  iapply fin
  iframe

theorem part38 {w1 w2 w3 w4 w5 w6 w7 w8 w9 w10 : BitVec 32} : iprop(Recs x K ∗ Led c 12 40 ∗ Sh x c 30 ∗ Ln (F := F) c 6 ∗ Sh x c 31 ∗ Ln (F := F) c 7) ⊢
    WP c (ap (k0_part38 (F := F)) c w1 w2 w3 w4 w5 w6 w7 w8 w9 w10) fun _ => Led c 10 40 := by
  rw [k0_part38_eq_skeleton]
  unfold k0_part38_skel
  simp only [Prog.lift, Prog.bind_op, Prog.bind_ret, Prog.pure_eq_ret]
  iintro ⟨#HR, HL, H30, N6, H31, N7⟩
  iapply (ag' x K c 30 6 96 11 40) $$ HR HL H30 N6
  iintro HL
  iapply (ag' x K c 31 7 96 10 40) $$ HR HL H31 N7
  iintro HL
  iapply fin
  iexact HL

theorem part39 {w1 w2 w3 : BitVec 32} : iprop(Recs x K ∗ Led c 10 40 ∗ Sh x c 32 ∗ Ln (F := F) c 15) ⊢
    WP c (ap (k0_part39 (F := F)) c w1 w2 w3) fun _ => iprop(Led c 9 38 ∗ Sh x c 26 ∗ Gt x c 26) := by
  rw [k0_part39_eq_skeleton]
  unfold k0_part39_skel
  simp only [Prog.lift, Prog.bind_op, Prog.bind_ret, Prog.pure_eq_ret]
  iintro ⟨#HR, HL, H32, N15⟩
  iapply (ag' x K c 32 15 96 9 40) $$ HR HL H32 N15
  iintro HL
  iapply (wsg' x K c 26 32 9 39) $$ HR HL
  iintro HL H26
  iapply (wrg' x K c 26 32 9 38) $$ HR HL
  iintro HL G26
  iapply fin
  iframe

theorem part40 {w1 w2 w3 w4 w5 : BitVec 32} : iprop(Recs x K ∗ Led c 9 38) ⊢
    WP c (ap (k0_part40 (F := F)) c w1 w2 w3 w4 w5) fun _ => iprop(Led c 9 35 ∗ Sh x c 27 ∗ Gt x c 27 ∗ Sh x c 28) := by
  rw [k0_part40_eq_skeleton]
  unfold k0_part40_skel
  simp only [Prog.lift, Prog.bind_op, Prog.bind_ret, Prog.pure_eq_ret]
  iintro ⟨#HR, HL⟩
  iapply (wsg' x K c 27 32 9 37) $$ HR HL
  iintro HL H27
  iapply (wrg' x K c 27 32 9 36) $$ HR HL
  iintro HL G27
  iapply (wsg' x K c 28 32 9 35) $$ HR HL
  iintro HL H28
  iapply fin
  iframe

theorem part41 {w1 w2 w3 w4 w5 w6 : BitVec 32} : iprop(Recs x K ∗ Led c 9 35 ∗ Sh x c 26 ∗ Sh x c 27 ∗ Sh x c 28 ∗ Gt x c 26 ∗ Gt x c 27 ∗ Ln (F := F) c 14) ⊢
    WP c (ap (k0_part41 (F := F)) c w1 w2 w3 w4 w5 w6) fun _ => iprop(Led c 8 34 ∗ Sh x c 34) := by
  rw [k0_part41_eq_skeleton]
  unfold k0_part41_skel
  simp only [Prog.lift, Prog.bind_op, Prog.bind_ret, Prog.pure_eq_ret]
  iintro ⟨#HR, HL, H26, H27, H28, G26, G27, N14⟩
  iapply (wrg' x K c 28 32 9 34) $$ HR HL
  iintro HL G28
  ihave HH := (joinQ x c) $$ [H26 H27 H28 G26 G27 G28]
  · iframe
  icases HH with ⟨H33, H34⟩
  iapply (ag' x K c 33 14 128 8 34) $$ HR HL H33 N14
  iintro HL
  iapply fin
  iframe

theorem part42 {w1 w2 w3 w4 w5 w6 w7 : BitVec 32} : iprop(Recs x K ∗ Led c 8 34 ∗ Sh x c 34 ∗ Ln (F := F) c 4) ⊢
    WP c (ap (k0_part42 (F := F)) c w1 w2 w3 w4 w5 w6 w7) fun _ => iprop(Led c 7 32 ∗ Sh x c 25 ∗ Gt x c 25) := by
  rw [k0_part42_eq_skeleton]
  unfold k0_part42_skel
  simp only [Prog.lift, Prog.bind_op, Prog.bind_ret, Prog.pure_eq_ret]
  iintro ⟨#HR, HL, H34, N4⟩
  iapply (ag' x K c 34 4 128 7 34) $$ HR HL H34 N4
  iintro HL
  iapply (wsg' x K c 25 96 7 33) $$ HR HL
  iintro HL H25
  iapply (wrg' x K c 25 96 7 32) $$ HR HL
  iintro HL G25
  iapply fin
  iframe

theorem part43 {w1 w2 w3 w4 w5 w6 w7 w8 : BitVec 32} : iprop(Recs x K ∗ Led c 7 32 ∗ Sh x c 35 ∗ Ln (F := F) c 8 ∗ Sh x c 36 ∗ Ln (F := F) c 9) ⊢
    WP c (ap (k0_part43 (F := F)) c w1 w2 w3 w4 w5 w6 w7 w8) fun _ => Led c 5 32 := by
  rw [k0_part43_eq_skeleton]
  unfold k0_part43_skel
  simp only [Prog.lift, Prog.bind_op, Prog.bind_ret, Prog.pure_eq_ret]
  iintro ⟨#HR, HL, H35, N8, H36, N9⟩
  iapply (ag' x K c 35 8 96 6 32) $$ HR HL H35 N8
  iintro HL
  iapply (ag' x K c 36 9 96 5 32) $$ HR HL H36 N9
  iintro HL
  iapply fin
  iexact HL

theorem part44 {w1 w2 w3 w4 w5 w6 w7 : BitVec 32} : iprop(Recs x K ∗ Led c 5 32 ∗ Sh x c 37 ∗ Ln (F := F) c 10) ⊢
    WP c (ap (k0_part44 (F := F)) c w1 w2 w3 w4 w5 w6 w7) fun _ => iprop(Led c 4 30 ∗ Sh x c 33 ∗ Gt x c 33) := by
  rw [k0_part44_eq_skeleton]
  unfold k0_part44_skel
  simp only [Prog.lift, Prog.bind_op, Prog.bind_ret, Prog.pure_eq_ret]
  iintro ⟨#HR, HL, H37, N10⟩
  iapply (ag' x K c 37 10 96 4 32) $$ HR HL H37 N10
  iintro HL
  iapply (wsg' x K c 33 128 4 31) $$ HR HL
  iintro HL H33
  iapply (wrg' x K c 33 128 4 30) $$ HR HL
  iintro HL G33
  iapply fin
  iframe

theorem part45 {w1 w2 w3 w4 w5 : BitVec 32} : iprop(Recs x K ∗ Led c 4 30 ∗ Sh x c 38 ∗ Ln (F := F) c 3) ⊢
    WP c (ap (k0_part45 (F := F)) c w1 w2 w3 w4 w5) fun _ => iprop(Led c 3 29 ∗ Sh x c 32) := by
  rw [k0_part45_eq_skeleton]
  unfold k0_part45_skel
  simp only [Prog.lift, Prog.bind_op, Prog.bind_ret, Prog.pure_eq_ret]
  iintro ⟨#HR, HL, H38, N3⟩
  iapply (ag' x K c 38 3 128 3 30) $$ HR HL H38 N3
  iintro HL
  iapply (wsg' x K c 32 96 3 29) $$ HR HL
  iintro HL H32
  iapply fin
  iframe

theorem part46 {w1 w2 w3 w4 w5 w6 w7 w8 w9 w10 : BitVec 32} : iprop(Recs x K ∗ Led c 3 29 ∗ Ln (F := F) c 0) ⊢
    WP c (ap (k0_part46 (F := F)) c w1 w2 w3 w4 w5 w6 w7 w8 w9 w10) fun _ => iprop(Led c 2 28 ∗ Sh x c 40 ∗ Sh x c 41) := by
  rw [k0_part46_eq_skeleton]
  unfold k0_part46_skel
  simp only [Prog.lift, Prog.bind_op, Prog.bind_ret, Prog.pure_eq_ret]
  iintro ⟨#HR, HL, N0⟩
  iapply (wrg' x K c 32 96 3 28) $$ HR HL
  iintro HL G32
  ihave HH := (Entails.of_eq ((gt32 x c).trans (shares3 x c))) $$ G32
  icases HH with ⟨H39, H40, H41⟩
  iapply (ag' x K c 39 0 96 2 28) $$ HR HL H39 N0
  iintro HL
  iapply fin
  iframe

end Cert.HierProof
-- ==== Proof.PartsE.lean ====
/- The body, last stretch: the remaining waits. -/
module

public import proofs.«01_k».proof.Proof.Pieces

@[expose] public section

set_option maxRecDepth 16384

noncomputable section

namespace Cert.HierProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → Fld F) (K : Dev nD × Option (Bool × Fin 42) → ℕ) (c : Dev nD)

theorem part47 {w1 w2 w3 w4 w5 : BitVec 32} : iprop(Recs x K ∗ Led c 2 28 ∗ Sh x c 40 ∗ Ln (F := F) c 1 ∗ Sh x c 41 ∗ Ln (F := F) c 2) ⊢
    WP c (ap (k0_part47 (F := F)) c w1 w2 w3 w4 w5) fun _ => iprop(Led c 0 27 ∗ Sh x c 34) := by
  rw [k0_part47_eq_skeleton]
  unfold k0_part47_skel
  simp only [Prog.lift, Prog.bind_op, Prog.bind_ret, Prog.pure_eq_ret]
  iintro ⟨#HR, HL, H40, N1, H41, N2⟩
  iapply (ag' x K c 40 1 96 1 28) $$ HR HL H40 N1
  iintro HL
  iapply (ag' x K c 41 2 96 0 28) $$ HR HL H41 N2
  iintro HL
  iapply (wsg' x K c 34 128 0 27) $$ HR HL
  iintro HL H34
  iapply fin
  iframe

theorem part48 {w1 w2 w3 : BitVec 32} : iprop(Recs x K ∗ Led c 0 27) ⊢
    WP c (ap (k0_part48 (F := F)) c w1 w2 w3) fun _ => iprop(Led c 0 25 ∗ Gt x c 34 ∗ Sh x c 38) := by
  rw [k0_part48_eq_skeleton]
  unfold k0_part48_skel
  simp only [Prog.lift, Prog.bind_op, Prog.bind_ret, Prog.pure_eq_ret]
  iintro ⟨#HR, HL⟩
  iapply (wrg' x K c 34 128 0 26) $$ HR HL
  iintro HL G34
  iapply (wsg' x K c 38 128 0 25) $$ HR HL
  iintro HL H38
  iapply fin
  iframe

theorem part49 {w1 w2 w3 : BitVec 32} : iprop(Recs x K ∗ Led c 0 25) ⊢
    WP c (ap (k0_part49 (F := F)) c w1 w2 w3) fun _ => iprop(Led c 0 21 ∗ Gt x c 38 ∗ Sh x c 21 ∗ Gt x c 21 ∗ Sh x c 22) := by
  rw [k0_part49_eq_skeleton]
  unfold k0_part49_skel
  simp only [Prog.lift, Prog.bind_op, Prog.bind_ret, Prog.pure_eq_ret]
  iintro ⟨#HR, HL⟩
  iapply (wrg' x K c 38 128 0 24) $$ HR HL
  iintro HL G38
  iapply (wsg' x K c 21 96 0 23) $$ HR HL
  iintro HL H21
  iapply (wrg' x K c 21 96 0 22) $$ HR HL
  iintro HL G21
  iapply (wsg' x K c 22 96 0 21) $$ HR HL
  iintro HL H22
  iapply fin
  iframe

theorem part50 {w1 w2 w3 w4 w5 : BitVec 32} : iprop(Recs x K ∗ Led c 0 21) ⊢
    WP c (ap (k0_part50 (F := F)) c w1 w2 w3 w4 w5) fun _ => iprop(Led c 0 19 ∗ Gt x c 22 ∗ Sh x c 23) := by
  rw [k0_part50_eq_skeleton]
  unfold k0_part50_skel
  simp only [Prog.lift, Prog.bind_op, Prog.bind_ret, Prog.pure_eq_ret]
  iintro ⟨#HR, HL⟩
  iapply (wrg' x K c 22 96 0 20) $$ HR HL
  iintro HL G22
  iapply (wsg' x K c 23 96 0 19) $$ HR HL
  iintro HL H23
  iapply fin
  iframe

theorem part51 {w1 w2 w3 : BitVec 32} : iprop(Recs x K ∗ Led c 0 19) ⊢
    WP c (ap (k0_part51 (F := F)) c w1 w2 w3) fun _ => iprop(Led c 0 16 ∗ Gt x c 23 ∗ Sh x c 29 ∗ Gt x c 29) := by
  rw [k0_part51_eq_skeleton]
  unfold k0_part51_skel
  simp only [Prog.lift, Prog.bind_op, Prog.bind_ret, Prog.pure_eq_ret]
  iintro ⟨#HR, HL⟩
  iapply (wrg' x K c 23 96 0 18) $$ HR HL
  iintro HL G23
  iapply (wsg' x K c 29 96 0 17) $$ HR HL
  iintro HL H29
  iapply (wrg' x K c 29 96 0 16) $$ HR HL
  iintro HL G29
  iapply fin
  iframe

theorem part52 {w1 w2 w3 w4 w5 : BitVec 32} : iprop(Recs x K ∗ Led c 0 16) ⊢
    WP c (ap (k0_part52 (F := F)) c w1 w2 w3 w4 w5) fun _ => iprop(Led c 0 13 ∗ Sh x c 30 ∗ Gt x c 30 ∗ Sh x c 31) := by
  rw [k0_part52_eq_skeleton]
  unfold k0_part52_skel
  simp only [Prog.lift, Prog.bind_op, Prog.bind_ret, Prog.pure_eq_ret]
  iintro ⟨#HR, HL⟩
  iapply (wsg' x K c 30 96 0 15) $$ HR HL
  iintro HL H30
  iapply (wrg' x K c 30 96 0 14) $$ HR HL
  iintro HL G30
  iapply (wsg' x K c 31 96 0 13) $$ HR HL
  iintro HL H31
  iapply fin
  iframe

theorem part53 {w1 w2 w3 w4 w5 : BitVec 32} : iprop(Recs x K ∗ Led c 0 13) ⊢
    WP c (ap (k0_part53 (F := F)) c w1 w2 w3 w4 w5) fun _ => iprop(Led c 0 10 ∗ Gt x c 31 ∗ Sh x c 35 ∗ Gt x c 35) := by
  rw [k0_part53_eq_skeleton]
  unfold k0_part53_skel
  simp only [Prog.lift, Prog.bind_op, Prog.bind_ret, Prog.pure_eq_ret]
  iintro ⟨#HR, HL⟩
  iapply (wrg' x K c 31 96 0 12) $$ HR HL
  iintro HL G31
  iapply (wsg' x K c 35 96 0 11) $$ HR HL
  iintro HL H35
  iapply (wrg' x K c 35 96 0 10) $$ HR HL
  iintro HL G35
  iapply fin
  iframe

theorem part54 {w1 w2 w3 w4 w5 : BitVec 32} : iprop(Recs x K ∗ Led c 0 10) ⊢
    WP c (ap (k0_part54 (F := F)) c w1 w2 w3 w4 w5) fun _ => iprop(Led c 0 7 ∗ Sh x c 36 ∗ Gt x c 36 ∗ Sh x c 37) := by
  rw [k0_part54_eq_skeleton]
  unfold k0_part54_skel
  simp only [Prog.lift, Prog.bind_op, Prog.bind_ret, Prog.pure_eq_ret]
  iintro ⟨#HR, HL⟩
  iapply (wsg' x K c 36 96 0 9) $$ HR HL
  iintro HL H36
  iapply (wrg' x K c 36 96 0 8) $$ HR HL
  iintro HL G36
  iapply (wsg' x K c 37 96 0 7) $$ HR HL
  iintro HL H37
  iapply fin
  iframe

theorem part55 {w1 w2 w3 w4 w5 : BitVec 32} : iprop(Recs x K ∗ Led c 0 7) ⊢
    WP c (ap (k0_part55 (F := F)) c w1 w2 w3 w4 w5) fun _ => iprop(Led c 0 4 ∗ Gt x c 37 ∗ Sh x c 39 ∗ Gt x c 39) := by
  rw [k0_part55_eq_skeleton]
  unfold k0_part55_skel
  simp only [Prog.lift, Prog.bind_op, Prog.bind_ret, Prog.pure_eq_ret]
  iintro ⟨#HR, HL⟩
  iapply (wrg' x K c 37 96 0 6) $$ HR HL
  iintro HL G37
  iapply (wsg' x K c 39 96 0 5) $$ HR HL
  iintro HL H39
  iapply (wrg' x K c 39 96 0 4) $$ HR HL
  iintro HL G39
  iapply fin
  iframe

theorem part56 {w1 w2 w3 w4 : BitVec 32} : iprop(Recs x K ∗ Led c 0 4) ⊢
    WP c (ap (k0_part56 (F := F)) c w1 w2 w3 w4) fun _ => iprop(Led c 0 1 ∗ Sh x c 40 ∗ Gt x c 40 ∗ Sh x c 41) := by
  rw [k0_part56_eq_skeleton]
  unfold k0_part56_skel
  simp only [Prog.lift, Prog.bind_op, Prog.bind_ret, Prog.pure_eq_ret]
  iintro ⟨#HR, HL⟩
  iapply (wsg' x K c 40 96 0 3) $$ HR HL
  iintro HL H40
  iapply (wrg' x K c 40 96 0 2) $$ HR HL
  iintro HL G40
  iapply (wsg' x K c 41 96 0 1) $$ HR HL
  iintro HL H41
  iapply fin
  iframe

end Cert.HierProof
-- ==== Proof.Body.lean ====
/- The whole body: its parts in order. -/
module

public import proofs.«01_k».proof.Proof.Enter
public import proofs.«01_k».proof.Proof.PartsA
public import proofs.«01_k».proof.Proof.PartsB
public import proofs.«01_k».proof.Proof.PartsC
public import proofs.«01_k».proof.Proof.PartsD
public import proofs.«01_k».proof.Proof.PartsE

@[expose] public section

set_option maxRecDepth 16384

noncomputable section

namespace Cert.HierProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → Fld F) (K : Dev nD × Option (Bool × Fin 42) → ℕ) (c : Dev nD)

/-- The accumulator at a core's own input: what the core keeps for itself, and what its copies take. -/
theorem acc_start : (PT .acc c 0 2048 fullShare (x c) : sProp 𝕄)
    = iprop((OA c 0 (x c) ∗ OA c 1 (x c) ∗ OA c 2 (x c) ∗ OA c 3 (x c) ∗ Src x c 12 ∗ Src x c 9 ∗ Src x c 6 ∗ Src x c 1 ∗ Src x c 11 ∗ Src x c 8
      ∗ Src x c 5 ∗ Src x c 0 ∗ Src x c 13 ∗ Src x c 10 ∗ Src x c 7 ∗ Src x c 2) ∗ (OB c 0 (x c) ∗ Src x c 4 ∗ OB c 2 (x c) ∗ Src x c 3)) :=
  acc_blocks c (x c)

/-- What the body starts from, beside the cells' invariants. -/
def Pre (f : (cc0_stg0_0 : Ref sig .tc).ty.Contents (Elt F)) : sProp 𝕄 :=
  iprop(Stg c f ∗ PX (F := F) .acc c 0 2048 ∗ Wh (F := F) c ∗ (∃ W, owes (c : Thread nD τ) (Ob c 5) W)
    ∗ (bigSep Finset.univ fun i => iprop(dutyTok ER (barCell (pr i c)) 0 i ∗ reached ER (barCell (pr i c)) 0))
    ∗ (bigSep Finset.univ fun k => reached ER (recvCell k c) 0)
    ∗ (cred (tallyAt (barCell c) () 5) ∗ atPos ER (barCell c) 0 ∅ 0)
    ∗ bigSep Finset.univ fun k => Own (F := F) c k)

/-- What it ends with. -/
def Post (f : (cc0_stg0_0 : Ref sig .tc).ty.Contents (Elt F)) : sProp 𝕄 :=
  iprop(Stg c f ∗ PT .acc c 0 2048 fullShare (vG x) ∗ Wh (F := F) c ∗ (∃ W, owes (c : Thread nD τ) 0 W) ∗ semVal (barCell c) 0
    ∗ bigSep Finset.univ fun k => iprop(semVal (sendCell k c) 0 ∗ semVal (recvCell k c) 0))

/-- What the body's last part leaves: the result in pieces, one arrival to wait for. -/
abbrev Last (f : (cc0_stg0_0 : Ref sig .tc).ty.Contents (Elt F)) : sProp 𝕄 :=
  iprop(Led c 0 1 ∗ Stg c f ∗ semVal (barCell c) 0 ∗ Wh (F := F) c
    ∗ ((Sh x c 21 ∗ Sh x c 22 ∗ Sh x c 23 ∗ Sh x c 24 ∗ Sh x c 25) ∗ (Sh x c 29 ∗ Sh x c 30 ∗ Sh x c 31 ∗ Sh x c 32)
      ∗ (Sh x c 35 ∗ Sh x c 36 ∗ Sh x c 37) ∗ (Sh x c 39 ∗ Sh x c 40 ∗ Sh x c 41))
    ∗ (Gt x c 21 ∗ Gt x c 22 ∗ Gt x c 23) ∗ (Gt x c 29 ∗ Gt x c 30 ∗ Gt x c 31) ∗ (Gt x c 35 ∗ Gt x c 36 ∗ Gt x c 37)
    ∗ (Gt x c 39 ∗ Gt x c 40) ∗ (Sh x c 33 ∗ Sh x c 34) ∗ Sh x c 38 ∗ Gt x c 34 ∗ Gt x c 38)

set_option maxHeartbeats 4000000 in
theorem part57 (f : (rs 2048).Idx → Elt F .bf16) (hx : x c = toF f) :
    iprop(Recs x K ∗ Pre c f) ⊢ WP c (ap (k0_part57 (F := F))) fun r => iprop(⌜r.1 = c⌝ ∗ Last x c f) := by
  rw [k0_part57_eq_skeleton]
  unfold k0_part57_skel Pre
  iintro ⟨#HR, HX, HA, HW, HO, HT, HV, HB, HK⟩
  ihave HP := (cut c) $$ HW
  ihave HP := (Pls_slots c) $$ HP
  ihave HS := (signals c) $$ [HT HP HV]
  · iframe
  icases HS with ⟨S0, S1, S2, S3, S4⟩
  iapply (seq (part1 c f)) $$ HX
  iintro %r ⟨%hd, %hv, HX⟩
  obtain ⟨d0, v2, v5, v8, v18, v35, v37⟩ := r
  dsimp only
  have hd : d0 = c := hd
  have hv : v37 = f := hv
  subst d0 v37
  iapply (seq (part2 x K c f hx)) $$ [HA HO S0]
  · isplitr
    · iexact HR
    iframe
  iintro %r ⟨%hv, HA, HO⟩
  obtain ⟨v39, v40, v41, v42, v44, v47, v50, v54, v55, v56, v57⟩ := r
  dsimp only
  have hv : v57 = SemArray.scalar (sig.barrier 0 rfl) := hv
  subst v57
  iapply (seq (part3 x K c)) $$ [HO S1 S2 S3 S4 HB]
  · isplitr
    · iexact HR
    iframe
  iintro %r ⟨HO, HP, HZ⟩
  obtain ⟨v89, v93, v95, v98, c96_i32_62⟩ := r
  dsimp only
  ihave HL := (Led_intro c) $$ [HO HP HK]
  · iframe
  ihave HA := (Entails.of_eq (acc_start x c)) $$ HA
  icases HA with ⟨⟨A0, A1, A2, A3, S12, S9, S6, S1, S11, S8, S5, S0, S13, S10, S7, S2⟩, B0, S4, B2, S3⟩
  iapply (seq (part4 x K c)) $$ [HL S0]
  · isplitr
    · iexact HR
    iframe
  iintro %r HL
  obtain ⟨v100, v101⟩ := r
  dsimp only
  iapply (seq (part5 x K c)) $$ [HL S1 S2]
  · isplitr
    · iexact HR
    iframe
  iintro %r HL
  obtain ⟨v149, v151, v152⟩ := r
  dsimp only
  iapply (seq (part6 x K c)) $$ [HL S3 S4]
  · isplitr
    · iexact HR
    iframe
  iintro %v180 HL
  iapply (seq (part7 x K c)) $$ [HL S5 S6]
  · isplitr
    · iexact HR
    iframe
  iintro %c768_i32_176 HL
  iapply (seq (part8 x K c)) $$ [HL S7 S8]
  · isplitr
    · iexact HR
    iframe
  iintro %_ HL
  iapply (seq (part9 x K c)) $$ [HL S9]
  · isplitr
    · iexact HR
    iframe
  iintro %_ HL
  iapply (seq (part10 x K c)) $$ [HL S10 S11]
  · isplitr
    · iexact HR
    iframe
  iintro %_ HL
  iapply (seq (part11 x K c)) $$ [HL S12 S13]
  · isplitr
    · iexact HR
    iframe
  iintro %_ HL
  iapply (seq (part12 x K c)) $$ [HL B2]
  · isplitr
    · iexact HR
    iframe
  iintro %_ ⟨HL, I3, N3, S14⟩
  iapply (seq (part13 x K c)) $$ [HL S14]
  · isplitr
    · iexact HR
    iframe
  iintro %_ ⟨HL, I0, N0⟩
  iapply (seq (part14 x K c)) $$ [HL]
  · isplitr
    · iexact HR
    iexact HL
  iintro %_ ⟨HL, I1, N1⟩
  iapply (seq (part15 x K c)) $$ [HL A3 I0 I1]
  · isplitr
    · iexact HR
    iframe
  iintro %_ ⟨HL, I2, N2, I0, I1, S15⟩
  iapply (seq (part16 x K c)) $$ [HL S15 B0]
  · isplitr
    · iexact HR
    iframe
  iintro %v449 ⟨%hv449, HL, I4, N4, B0⟩
  subst v449
  iapply (seq (part17 x K c)) $$ [HL B0]
  · isplitr
    · iexact HR
    iframe
  iintro %_ ⟨HL, B0, I5, N5⟩
  iapply (seq (part18 x K c)) $$ [HL]
  · isplitr
    · iexact HR
    iexact HL
  iintro %_ ⟨HL, I6, N6⟩
  iapply (seq (part19 x K c)) $$ [HL A2 I5]
  · isplitr
    · iexact HR
    iframe
  iintro %v516 ⟨%hv516, HL, I7, N7, I15, N15, A2, I5⟩
  subst v516
  iapply (seq (part20 x K c)) $$ [HL I6 I7 I15 A2]
  · isplitr
    · iexact HR
    iframe
  iintro %_ ⟨HL, I6, I7, I15⟩
  iapply (seq (part21 x K c)) $$ [HL]
  · isplitr
    · iexact HR
    iexact HL
  iintro %v565 ⟨HL, I8, N8⟩
  iapply (seq (part22 x K c)) $$ [HL A1]
  · isplitr
    · iexact HR
    iframe
  iintro %r ⟨%hv591, HL, I9, N9, I10, N10, A1⟩
  obtain ⟨v591, c0_i32_658⟩ := r
  dsimp only at *
  subst v591
  iapply (seq (part23 x K c)) $$ [HL I8 I9 I10 A1]
  · isplitr
    · iexact HR
    iframe
  iintro %_ ⟨HL, I8, I9, I10⟩
  iapply (seq (part24 x K c)) $$ [HL B0]
  · isplitr
    · iexact HR
    iframe
  iintro %v636 ⟨HL, I14, N14, B0⟩
  ihave HH := (cutQ x c).mp $$ B0
  icases HH with ⟨Q0, S18, S19, S20⟩
  iapply (seq (part25 x K c)) $$ [HL S18 S19]
  · isplitr
    · iexact HR
    iframe
  iintro %_ HL
  iapply (seq (part26 x K c)) $$ [HL S20]
  · isplitr
    · iexact HR
    iframe
  iintro %_ HL
  iapply (seq (part27 x K c)) $$ [HL]
  · isplitr
    · iexact HR
    iexact HL
  iintro %_ ⟨HL, I11, N11, I12, N12⟩
  iapply (seq (part28 x K c)) $$ [HL]
  · isplitr
    · iexact HR
    iexact HL
  iintro %_ ⟨HL, I13, N13⟩
  iapply (seq (part29 x K c)) $$ [HL A0 I11]
  · isplitr
    · iexact HR
    iframe
  iintro %r ⟨%hv759, %hv762, HL, I17, N17, I16, N16, A0, I11⟩
  obtain ⟨v756, v759, v762⟩ := r
  dsimp only at *
  subst v759
  subst v762
  iapply (seq (part30 x K c)) $$ [HL I12 I13 I17 I16 A0 N11]
  · isplitr
    · iexact HR
    iframe
  iintro %_ ⟨HL, I12, I13, I17, I16, H22, H23, H24, H25⟩
  iapply (seq (part31 x K c)) $$ [HL H22 N12 H23 N13]
  · isplitr
    · iexact HR
    iframe
  iintro %v817 HL
  iapply (seq (part32 x K c)) $$ [HL H24 N16 H25 N17]
  · isplitr
    · iexact HR
    iframe
  iintro %_ HL
  iapply (seq (part33 x K c)) $$ [HL]
  · isplitr
    · iexact HR
    iexact HL
  iintro %_ ⟨HL, I18, N18⟩
  iapply (seq (part34 x K c)) $$ [HL Q0]
  · isplitr
    · iexact HR
    iframe
  iintro %r ⟨%hv886, HL, I19, N19, I20, N20, Q0⟩
  obtain ⟨v883, v886⟩ := r
  dsimp only at *
  subst v886
  iapply (seq (part35 x K c)) $$ [HL I18 I19 I20 Q0 N18]
  · isplitr
    · iexact HR
    iframe
  iintro %_ ⟨HL, I18, I19, I20, H27, H28⟩
  iapply (seq (part36 x K c)) $$ [HL H27 N19 H28 N20]
  · isplitr
    · iexact HR
    iframe
  iintro %c8_i32_1114 ⟨HL, H24⟩
  iapply (seq (part37 x K c)) $$ [HL N5]
  · isplitr
    · iexact HR
    iframe
  iintro %r ⟨HL, H30, H31, H32⟩
  obtain ⟨v961, c1_i32_1145⟩ := r
  dsimp only
  iapply (seq (part38 x K c)) $$ [HL H30 N6 H31 N7]
  · isplitr
    · iexact HR
    iframe
  iintro %_ HL
  iapply (seq (part39 x K c)) $$ [HL H32 N15]
  · isplitr
    · iexact HR
    iframe
  iintro %_ ⟨HL, H26, G26⟩
  iapply (seq (part40 x K c)) $$ [HL]
  · isplitr
    · iexact HR
    iexact HL
  iintro %v1031 ⟨HL, H27, G27, H28⟩
  iapply (seq (part41 x K c)) $$ [HL H26 H27 H28 G26 G27 N14]
  · isplitr
    · iexact HR
    iframe
  iintro %_ ⟨HL, H34⟩
  iapply (seq (part42 x K c)) $$ [HL H34 N4]
  · isplitr
    · iexact HR
    iframe
  iintro %r ⟨HL, H25, G25⟩
  obtain ⟨v1079, c0_i32_1314⟩ := r
  dsimp only
  ihave HH := (Entails.of_eq ((gt25 x c).trans (shares1 x c))) $$ G25
  icases HH with ⟨H35, H36, H37⟩
  iapply (seq (part43 x K c)) $$ [HL H35 N8 H36 N9]
  · isplitr
    · iexact HR
    iframe
  iintro %r HL
  obtain ⟨v1106, v1107⟩ := r
  dsimp only
  iapply (seq (part44 x K c)) $$ [HL H37 N10]
  · isplitr
    · iexact HR
    iframe
  iintro %v1130 ⟨HL, H33, G33⟩
  ihave H38 := (Entails.of_eq ((gt33 x c).trans (share38 x c))) $$ G33
  iapply (seq (part45 x K c)) $$ [HL H38 N3]
  · isplitr
    · iexact HR
    iframe
  iintro %v1154 ⟨HL, H32⟩
  iapply (seq (part46 x K c)) $$ [HL N0]
  · isplitr
    · iexact HR
    iframe
  iintro %r ⟨HL, H40, H41⟩
  obtain ⟨v1180, v1181⟩ := r
  dsimp only
  iapply (seq (part47 x K c)) $$ [HL H40 N1 H41 N2]
  · isplitr
    · iexact HR
    iframe
  iintro %_ ⟨HL, H34⟩
  iapply (seq (part48 x K c)) $$ [HL]
  · isplitr
    · iexact HR
    iexact HL
  iintro %_ ⟨HL, G34, H38⟩
  iapply (seq (part49 x K c)) $$ [HL]
  · isplitr
    · iexact HR
    iexact HL
  iintro %_ ⟨HL, G38, H21, G21, H22⟩
  iapply (seq (part50 x K c)) $$ [HL]
  · isplitr
    · iexact HR
    iexact HL
  iintro %_ ⟨HL, G22, H23⟩
  iapply (seq (part51 x K c)) $$ [HL]
  · isplitr
    · iexact HR
    iexact HL
  iintro %_ ⟨HL, G23, H29, G29⟩
  iapply (seq (part52 x K c)) $$ [HL]
  · isplitr
    · iexact HR
    iexact HL
  iintro %r ⟨HL, H30, G30, H31⟩
  obtain ⟨v1308, v1309⟩ := r
  dsimp only
  iapply (seq (part53 x K c)) $$ [HL]
  · isplitr
    · iexact HR
    iexact HL
  iintro %_ ⟨HL, G31, H35, G35⟩
  iapply (seq (part54 x K c)) $$ [HL]
  · isplitr
    · iexact HR
    iexact HL
  iintro %r ⟨HL, H36, G36, H37⟩
  obtain ⟨v1348, v1349⟩ := r
  dsimp only
  iapply (seq (part55 x K c)) $$ [HL]
  · isplitr
    · iexact HR
    iexact HL
  iintro %_ ⟨HL, G37, H39, G39⟩
  iapply (seq (part56 x K c)) $$ [HL]
  · isplitr
    · iexact HR
    iexact HL
  iintro %r ⟨HL, H40, G40, H41⟩
  obtain ⟨v1389, c0_i32_1806⟩ := r
  dsimp only
  iapply fin
  isplitr
  · ipureintro; rfl
  isplitl [HL]; · iexact HL
  isplitl [HX]; · iexact HX
  isplitl [HZ]; · iexact HZ
  isplitl [I0 I1 I2 I3 I4 I5 I6 I7 I8 I9 I10 I11 I12 I13 I14 I15 I16 I17 I18 I19 I20]
  · iapply (join c)
    ihave I0 := (In_Pl x c 0) $$ I0
    ihave I1 := (In_Pl x c 1) $$ I1
    ihave I2 := (In_Pl x c 2) $$ I2
    ihave I3 := (In_Pl x c 3) $$ I3
    ihave I4 := (In_Pl x c 4) $$ I4
    ihave I5 := (In_Pl x c 5) $$ I5
    ihave I6 := (In_Pl x c 6) $$ I6
    ihave I7 := (In_Pl x c 7) $$ I7
    ihave I8 := (In_Pl x c 8) $$ I8
    ihave I9 := (In_Pl x c 9) $$ I9
    ihave I10 := (In_Pl x c 10) $$ I10
    ihave I11 := (In_Pl x c 11) $$ I11
    ihave I12 := (In_Pl x c 12) $$ I12
    ihave I13 := (In_Pl x c 13) $$ I13
    ihave I14 := (In_Pl x c 14) $$ I14
    ihave I15 := (In_Pl x c 15) $$ I15
    ihave I16 := (In_Pl x c 16) $$ I16
    ihave I17 := (In_Pl x c 17) $$ I17
    ihave I18 := (In_Pl x c 18) $$ I18
    ihave I19 := (In_Pl x c 19) $$ I19
    ihave I20 := (In_Pl x c 20) $$ I20
    unfold Pls
    iframe
  iframe

theorem body (f : (rs 2048).Idx → Elt F .bf16) (hx : x c = toF f) :
    iprop(Recs x K ∗ Pre c f) ⊢ WP c (ap (cc0_body (F := F))) fun _ => Post x c f := by
  rw [cc0_body_eq_skeleton]
  unfold cc0_body_skel
  iintro ⟨#HR, HP⟩
  iapply (seq (part57 x K c f hx)) $$ [HP]
  · isplitr
    · iexact HR
    iexact HP
  iintro %r ⟨%hd, HL, HX, HZ, HW, HS, G1, G2, G3, ⟨G39, G40⟩, HS', H38, G34, G38⟩
  obtain ⟨d0, v8, v1392⟩ := r
  dsimp only
  have hd : d0 = c := hd
  subst d0
  simp only [Prog.lift, Prog.bind_op, Prog.bind_ret, Prog.pure_eq_ret]
  iapply (wrg' x K c 41 96 0 0) $$ HR HL
  iintro HL G41
  iapply fin
  ihave HL := (Led_elim c) $$ HL
  icases HL with ⟨HO, HC⟩
  ihave HA := (joinAll x c) $$ [HS G1 G2 G3 G39 G40 G41 HS' H38 G34 G38]
  · iframe
  unfold Post
  iframe

end Cert.HierProof
-- ==== Proof.Region.lean ====
/- The kernel's region: its two windows, its body's obligation, and what it is entered and left with. -/
module

public import proofs.«01_k».proof.Proof.Body
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.RegionTalk

@[expose] public section

set_option maxRecDepth 16384

noncomputable section

namespace Cert.HierProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The cells the kernel opens -/

/-- The counters of the copies, departures first. -/
def osem : Fin 42 ⊕ Fin 42 → SemLoc sig := Sum.elim (fun k => .dma (ssem k)) fun k => .dma (rsem k)

def side (a : Fin 42 ⊕ Fin 42) : Option (Bool × Fin 42) := some (Sum.elim (fun k => (false, k)) (fun k => (true, k)) a)

theorem dec_osem (a : Fin 42 ⊕ Fin 42) : ∃ s, osem a = .dma s ∧ dec s = side a := by
  rcases a with k | k
  · exact ⟨_, rfl, dec_ssem k⟩
  · exact ⟨_, rfl, dec_rsem k⟩

theorem side_inj : Function.Injective side := by
  intro a b h
  rcases a with k | k <;> rcases b with j | j <;> simp only [side, Sum.elim_inl, Sum.elim_inr, Option.some.injEq, Prod.mk.injEq] at h
  · rw [h.2]
  · exact absurd h.1 (by decide)
  · exact absurd h.1 (by decide)
  · rw [h.2]

theorem osem_inj : Function.Injective osem := fun a b h => by
  obtain ⟨s, hs, ds⟩ := dec_osem a
  obtain ⟨t, ht, dt⟩ := dec_osem b
  rw [hs, ht, SemLoc.dma.injEq] at h
  subst h
  exact side_inj (ds.symm.trans dt)

theorem dec_stage : ∀ (w : Fin 2) (s : Fin (spec0 w).nbuf), dec ((spec0 w).sem s) = none := by decide +kernel

theorem osem_facts : Pipeline.OwnSemFacts spec0 osem where
  isScoped a := by
    obtain ⟨s, hs, -⟩ := dec_osem a
    rw [hs]; exact (by decide +kernel : ∀ s : DmaSem sig, (SemLoc.dma s : SemLoc sig).isScoped .tc = true) s
  inj := osem_inj
  disj a w s h := by
    obtain ⟨t, ht, dt⟩ := dec_osem a
    rw [ht, SemLoc.dma.injEq] at h
    rw [h, dec_stage w s] at dt
    exact absurd dt.symm (Option.some_ne_none _)

omit [FloatOps F] in
theorem ownSems_eq (c : Dev nD) : (Pipeline.ownSems0 osem c : sProp 𝕄)
    = bigSep Finset.univ fun k => iprop(semVal (sendCell k c) 0 ∗ semVal (recvCell k c) 0) := by
  unfold Pipeline.ownSems0
  rw [bigSep_univ_sum]
  exact (bigSep_sep Finset.univ (fun k => semVal (sendCell k c) 0) (fun k => semVal (recvCell k c) 0)).symm

/-! ## What the region is entered with -/

variable (m : (l : Loc nD τ sig) → Buf (Elt F) l)

/-- The matrix a core brings. -/
def inp (c : Dev nD) : (rs 2048).Idx → Elt F .bf16 := V m c main_v1
def xs (c : Dev nD) : Fld F := toF (h := 2048) (inp m c)
/-- The result of core `c`. -/
def out (c : Dev nD) : (rs 2048).Idx → Elt F .bf16 := cont .acc (vG (xs m))

/-- Every cell's invariant. -/
def Invs (K : Dev nD × Option (Bool × Fin 42) → ℕ) : sProp 𝕄 :=
  bigSep Finset.univ fun i => cellInv ER (Rd (xs m)) (K i) (cellAt i)

instance Invs_persistent (K : Dev nD × Option (Bool × Fin 42) → ℕ) : Persistent (Invs m K) := by unfold Invs; infer_instance

theorem Invs_at (K : Dev nD × Option (Bool × Fin 42) → ℕ) (i : Dev nD × Option (Bool × Fin 42)) :
    Invs m K ⊢ cellInv ER (Rd (xs m)) (K i) (cellAt i) := by
  unfold Invs; exact bigSep_elim (Finset.mem_univ i)

/-- Of a copy, before its cells are opened. -/
def Cl (c : Dev nD) (k : Fin 42) : sProp 𝕄 :=
  iprop(openTok ER (sendCell k c) ∗ openTok ER (recvCell k c)
    ∗ dutyTok ER (sendCell k c) 0 0 ∗ dutyTok ER (recvCell k (pe k c)) 0 0 ∗ cred (tallyAt (recvCell k c) () (N k)))

/-- Of the barrier: what signalling each peer takes, and what the wait takes. -/
def Bar (c : Dev nD) : sProp 𝕄 :=
  iprop((bigSep Finset.univ fun i => iprop(dutyTok ER (barCell (pr i c)) 0 i ∗ reached ER (barCell (pr i c)) 0))
    ∗ (cred (tallyAt (barCell c) () 5) ∗ atPos ER (barCell c) 0 ∅ 0))

/-- What a core carries from the launch. -/
def Tk (c : Dev nD) : sProp 𝕄 :=
  iprop((∃ K, Invs m K) ∗ Bar c ∗ bigSep Finset.univ fun k => Cl c k)

/-- With its cells opened. -/
def Xk (c : Dev nD) : sProp 𝕄 :=
  iprop((∃ K, Recs (xs m) K) ∗ Bar c ∗ (bigSep Finset.univ fun k => reached ER (recvCell k c) 0) ∗ bigSep Finset.univ fun k => Own c k)

def Yk (c : Dev nD) : sProp 𝕄 := semVal (barCell c) 0

/-- One copy's two cells opened. -/
theorem open_one (K : Dev nD × Option (Bool × Fin 42) → ℕ) (c : Dev nD) (k : Fin 42) :
    iprop(Invs m K ∗ (Cl c k ∗ (semVal (sendCell k c) 0 ∗ semVal (recvCell k c) 0)))
      ⊢ (|={Set.univ}=> iprop(reached ER (recvCell k c) 0 ∗ Own c k) : sProp 𝕄) := by
  unfold Cl Own pend0
  iintro ⟨#HI, ⟨Ho1, Ho2, Ht1, Ht2, Hc⟩, Hs, Hr⟩
  ihave #HI1 := (Invs_at m K (c, some (false, k))) $$ HI
  ihave #HI2 := (Invs_at m K (c, some (true, k))) $$ HI
  imod (Rounds.cell_open ER (Rd (xs m)) (g := sendCell k c) (Set.mem_univ (K (c, some (false, k))))) $$ [Ho1 Hs] with ⟨Ha1, #HrS⟩
  · isplitr; · iexact HI1
    isplitl [Ho1] <;> iassumption
  imod (Rounds.cell_open ER (Rd (xs m)) (g := recvCell k c) (Set.mem_univ (K (c, some (true, k))))) $$ [Ho2 Hr] with ⟨Ha2, #HrR⟩
  · isplitr; · iexact HI2
    isplitl [Ho2] <;> iassumption
  imodintro
  isplitr; · iexact HrR
  isplitl [Ht1 Ht2]
  · isplitl [Ht1]; · iexact Ht1
    isplitr; · iexact HrS
    iexact Ht2
  isplitl [Ha1]; · iexact Ha1
  isplitl [Ha2]; · iexact Ha2
  iexact Hc

theorem open_all (K : Dev nD × Option (Bool × Fin 42) → ℕ) (c : Dev nD) :
    iprop(Invs m K ∗ ((bigSep Finset.univ fun k => Cl c k) ∗ Pipeline.ownSems0 osem c))
      ⊢ (|={Set.univ}=> iprop((bigSep Finset.univ fun k => reached ER (recvCell k c) 0) ∗ bigSep Finset.univ fun k => Own c k) : sProp 𝕄) := by
  rw [ownSems_eq, show iprop((bigSep Finset.univ fun k => Cl (F := F) c k)
      ∗ bigSep Finset.univ fun k => iprop(semVal (sendCell k c) 0 ∗ semVal (recvCell k c) 0))
    = bigSep Finset.univ fun k => iprop(Cl (F := F) c k ∗ (semVal (sendCell k c) 0 ∗ semVal (recvCell k c) 0)) from (bigSep_sep _ _ _).symm]
  rw [show iprop((bigSep Finset.univ fun k => reached ER (recvCell k c) 0) ∗ bigSep Finset.univ fun k => Own (F := F) c k)
    = bigSep Finset.univ fun k => iprop(reached ER (recvCell k c) 0 ∗ Own (F := F) c k) from (bigSep_sep _ _ _).symm]
  exact (bigSep_with_persistent fun k _ => open_one m K c k).trans (bigSep_fupd _ _)

theorem hopen (c : Dev nD) : iprop(Tk m c ∗ Pipeline.ownSems0 osem c ∗ levAts L lv) ⊢ (|={Set.univ}=> Xk m c : sProp 𝕄) := by
  unfold Tk Xk
  iintro ⟨⟨⟨%K, #HI⟩, HB, HC⟩, Hs, #HL⟩
  imod (open_all m K c) $$ [HC Hs] with ⟨Hr, Ho⟩
  · isplitr; · iexact HI
    isplitl [HC] <;> iassumption
  imodintro
  isplitr
  · iexists K; unfold Recs Invs
    isplitr; · iexact HI
    iexact HL
  isplitl [HB]; · iexact HB
  isplitl [Hr] <;> iassumption

/-! ## The region's windows and invariant -/

def Φ₀ (c : Dev nD) : sProp 𝕄 := iprop(Wh c ∗ (∃ r, prngReg c r) ∗ Xk m c)
def Φ₁ (c : Dev nD) : sProp 𝕄 := iprop(Wh c ∗ (∃ r, prngReg c r) ∗ Pipeline.ownSems0 osem c ∗ Yk c)

def dat (c : Dev nD) : Dat τ (Elt F) Unit ℕ UU ℕ cfg0 c where
  A w := V m c (Pipeline.arrRef spec0 w)
  after w _ := match w with
    | ⟨0, _⟩ => inp m c
    | ⟨1, _⟩ => out m c
  Φ t := match t with
    | ⟨0, _⟩ => Φ₀ m c
    | ⟨_ + 1, _⟩ => Φ₁ c
  q _ := fullShare
  owed t := match t with
    | ⟨0, _⟩ => Ob c 5
    | ⟨_ + 1, _⟩ => 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
/-- A window's block is placed in its array at the block's own index. -/
theorem emb_at (w : Fin cfg0.W) (y : ((cfg0.win w).xblock (cfg0.grid.coords t0_0)).Idx) (a) :
    (((cfg0.win w).rect t0_0).emb y a).val = (y a).val := by
  rw [Rect.emb_apply]
  match w with
  | ⟨0, _⟩ => show 0 * _ + 1 * (y a).val = (y a).val; rw [Nat.zero_mul, Nat.zero_add, Nat.one_mul]
  | ⟨1, _⟩ => show 0 * _ + 1 * (y a).val = (y a).val; rw [Nat.zero_mul, Nat.zero_add, Nat.one_mul]

theorem before_in (c : Dev nD) (d) : (dat m c).before (0 : Fin 2) t0_0 d = inp m c := by
  unfold Dat.before; rw [if_pos (fetch0_0 t0_0)]
  funext j
  show inp m c (((cfg0.win (0 : Fin 2)).rect t0_0).emb j) = inp m c j
  exact congrArg (inp m c) (funext fun a => Fin.ext (emb_at 0 j a))

theorem arr_in (c : Dev nD) (n : ℕ) : (dat m c).arrAt (0 : Fin 2) n = V m c main_v1 := (dat m c).arrAt_in (0 : Fin 2) rfl _

theorem arr_out (c : Dev nD) : (dat m c).arrAt (1 : Fin 2) cfg0.N = out m c := by
  funext j
  have h := (dat m c).arrAt_emb_eq_flushed (1 : Fin 2)
    (fun t t' _ _ ht => absurd ((fin_N0 t).trans (fin_N0 t').symm) ht) t0_0 (flush0_1 t0_0) j
  have e : ((cfg0.win (1 : Fin 2)).blk t0_0).view.emb j = j := funext fun a => Fin.ext (emb_at 1 j a)
  rw [e] at h
  exact h

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dat m c).owesAt () t0_0.castSucc
    ∗ (∃ d, stg c cc0_stg0_0 ((dat m c).before (0 : Fin 2) t0_0 d)) ∗ (∃ d, stg c cc0_stg1_0 ((dat m c).before (1 : Fin 2) t0_0 d)))

def bodyPost (c : Dev nD) : sProp 𝕄 :=
  iprop(Φ₁ c ∗ (dat m c).owesAt () t0_0.succ ∗ stg c cc0_stg0_0 (inp m c) ∗ stg c cc0_stg1_0 (out m c))

theorem sound_body (c : Dev nD) : bodyPre m c ⊢ WP c (ap (cc0_body (F := F))) fun _ => bodyPost m c := by
  unfold bodyPre Φ₀ Xk Bar
  iintro ⟨⟨HW, Hp, ⟨%K, #HR⟩, ⟨Hb, Hcb⟩, Hr, Ho⟩, HO, ⟨%d0, %g0, %hg0, Hx⟩, ⟨%d1, %g1, %hg1, Hout⟩⟩
  have hx : g0 = inp m c := hg0.trans (before_in m c d0)
  subst hx
  unfold Dat.owesAt Pipeline.owesWithin
  icases HO with ⟨%W, %hW, HO⟩
  iapply (wp_wand _ _ _) $$ [Hx Hout HW HO Hb Hr Hcb Ho]
  · iapply (body (xs m) K c (inp m c) rfl)
    isplitr; · iexact HR
    unfold Pre
    isplitl [Hx]; · iexact Hx
    isplitl [Hout]; · iapply (whole_PX .acc c); iexists g1; iexact Hout
    isplitl [HW]; · iexact HW
    isplitl [HO]; · iexists W; iexact HO
    isplitl [Hb]; · iexact Hb
    isplitl [Hr]; · iexact Hr
    isplitl [Hcb]; · iexact Hcb
    iexact Ho
  iintro %r HP
  unfold Post bodyPost Φ₁ Yk
  rw [ownSems_eq]
  icases HP with ⟨Hx, Ha, HW, ⟨%W', HO⟩, Hb, Hs⟩
  isplitl [HW Hp Hs Hb]
  · isplitl [HW]; · iexact HW
    isplitl [Hp]; · iexact Hp
    isplitl [Hs] <;> iassumption
  isplitl [HO]
  · unfold Dat.owesAt Pipeline.owesWithin Dat.bound
    iexists W'
    isplitr; · ipureintro; exact fun _ _ => Or.inl trivial
    iexact HO
  isplitl [Hx]
  · iexists (inp m c); isplitr
    · ipureintro; rfl
    iexact Hx
  iexists (out m c); isplitr
  · ipureintro; rfl
  unfold PT
  rw [show rset .acc 0 2048 = Finset.univ from rset_whole .acc]
  iexact Ha

/-- The body's obligation at the grid's one point. -/
theorem obligation (c : Dev nD) : BodyObligation (dat m c) defs₀ 𝒱₀ () Set.univ := fun t => by
  rw [fin_N0 t, bigSep_W0, bigSep_W0]
  simp only [owns_whole_eq]
  exact sound_body m c

/-! ## The region -/

/-- The buffers at the region's start, and at its end. -/
def V₁ (c : Dev nD) : Valuation τ sig (Elt F) := StableHlo.after hostOps0 fun b => m (c, b)
def V₂ (c : Dev nD) : Valuation τ sig (Elt F) := Function.update (V₁ m c) (Proc.devRef .tc main_v2) (out m c)

theorem V₂_out (c : Dev nD) : V₂ m c (Proc.devRef .tc main_v2) = out m c := Function.update_self ..
theorem V₂_in (c : Dev nD) : V₂ m c (Proc.devRef .tc main_v1) = inp m c := Function.update_of_ne (by decide) _ _
theorem V₂_arg (c : Dev nD) : V₂ m c (Proc.devRef .tc main_arg0) = m ((c : Thread nD τ).loc main_arg0) :=
  (Function.update_of_ne (by decide) _ _).trans (V_main_arg0 m c)

theorem owed_pos (c : Dev nD) (t : Fin (cfg0.N + 1)) (g : GSem nD τ sig) (u : Unit) (h : 0 < (dat m c).owed t g u) :
    u ∈ L g ∧ 0 < lv g u := by
  have h' : 0 < Ob c 5 g u := by
    match t with
    | ⟨0, _⟩ => exact h
    | ⟨_ + 1, _⟩ => exact absurd h (Nat.lt_irrefl 0)
  rcases Ob_pos h' with ⟨j, -, rfl⟩ | ⟨d, rfl⟩
  · exact ⟨Finset.mem_singleton_self _, by rw [lv_recv]; omega⟩
  · exact ⟨Finset.mem_singleton_self _, by rw [lv_bar]; exact Nat.one_pos⟩

theorem share_eq (c : Dev nD) (w : Fin cfg0.W) : (dat m c).share w = fullShare := by unfold Dat.share; split <;> rfl

theorem lv_stage (c : Dev nD) (w : Fin 2) (s : Fin (spec0 w).nbuf) : lv ((c : Thread nD τ), .dma ((spec0 w).sem s)) () ≤ 0 := by
  dsimp only [lv]; rw [dec_stage]

theorem hin (c : Dev nD) : iprop(Pipeline.scopedRest (Pipeline.pin (pcfgs (F := F)) adm 0).spec c ∗ (∃ r, prngReg c r)
    ∗ StableHlo.held (c.tc : Thread nD τ) ∅ (V₁ m c) ∗ Xk m c) ⊢ (pdats m 0 c).Φ 0 := by
  rw [show (Pipeline.scopedRest (Pipeline.pin (pcfgs (F := F)) adm 0).spec c : sProp 𝕄) = _ from scopedRest0_eq c]
  show _ ⊢ Φ₀ m c
  unfold Φ₀ Wh
  iintro ⟨⟨H0, H1, H2, H3⟩, Hp, -, HX⟩
  isplitl [H0 H1 H2 H3]
  · isplitl [H0]; · iapply (whole_PX .xyA c) $$ H0
    isplitl [H1]; · iapply (whole_PX .xyB c) $$ H1
    isplitl [H2]; · iapply (whole_PX .zA c) $$ H2
    iapply (whole_PX .zB c) $$ H3
  isplitl [Hp]; · iexact Hp
  iexact HX

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ Yk c) := by
  rw [show (Pipeline.scopedRest (Pipeline.pin (pcfgs (F := F)) adm 0).spec c : sProp 𝕄) = _ from scopedRest0_eq c]
  show Φ₁ c ⊢ _
  unfold Φ₁ Wh StableHlo.held
  rw [bigSep_empty]
  iintro ⟨⟨H0, H1, H2, H3⟩, Hp, Ho, HY⟩
  isplitl [H0 H1 H2 H3]
  · isplitl [H0]; · iapply (show PX .xyA c 0 1152 ⊢ _ from PX_whole .xyA c) $$ H0
    isplitl [H1]; · iapply (show PX .xyB c 0 96 ⊢ _ from PX_whole .xyB c) $$ H1
    isplitl [H2]; · iapply (show PX .zA c 0 288 ⊢ _ from PX_whole .zA c) $$ H2
    iapply (show PX .zB c 0 384 ⊢ _ from PX_whole .zB c) $$ H3
  isplitl [Hp]; · iexact Hp
  isplitr; · iempintro
  isplitl [Ho] <;> iassumption

local notation "ℝ𝕊" => Pipeline.RegionSeg (pcfgs (F := F)) adm (pdats m) () defs₀ 𝒱₀ L lv
local notation "ℍ" => Pipeline.HostSeg (Name := ℕ) (U := UU) (pcfgs (F := F)) defs₀ 𝒱₀ L lv

theorem arrs_start (c : Dev nD) (w : Fin cfg0.W) : (dat m c).arrAt w 0 = V₁ m c (Proc.devRef .tc (Pipeline.arrRef spec0 w)) := rfl
theorem arrs_end (c : Dev nD) (w : Fin cfg0.W) : (dat m c).arrAt w cfg0.N = V₂ m c (Proc.devRef .tc (Pipeline.arrRef spec0 w)) := by
  match w with
  | ⟨0, _⟩ => exact (arr_in m c _).trans (V₂_in m c).symm
  | ⟨1, _⟩ => exact (arr_out m c).trans (V₂_out m c).symm

/-- The kernel's own argument, which the region only passes by. -/
def Arg (c : Dev nD) : sProp 𝕄 := ((c : Thread nD τ).loc main_arg0) ↦{fullShare} m ((c : Thread nD τ).loc main_arg0)

set_option backward.isDefEq.respectTransparency.types false in
def reg : ℝ𝕊 0 :=
  Pipeline.RegionSeg.ofTalk (pcfgs (F := F)) adm (pdats m) () defs₀ 𝒱₀ L lv 0 osem osem_facts
    ∅ ∅ (Finset.Subset.refl _) launch0.toP rfl (fun c => (obligation m c).loose)
    (fun _ => 0) (fun c => Ob c 5) (fun c => (zero_add _).symm) (fun _ => rfl) (fun _ => rfl) (share_eq m)
    (V₁ m) (V₂ m) (fun _ b hb => absurd hb (Finset.notMem_empty b))
    (Tk m) Yk (Xk m) Yk (hopen m) (hin m) (hout m)
    (fun c => by iintro H; imodintro; iexact H)
    (fun _ => 0)
    ⟨fun c w s => by rw [L_tc]; exact Finset.mem_singleton_self _, fun c w s => lv_stage c w s, fun c t g i h => owed_pos m c t g i h⟩
    (Arg m)
    (arrs_start m) (arrs_end m)

end Cert.HierProof

end
-- ==== Proof.Launch.lean ====
/- The launch: what every core starts with, and the whole program's run. -/
module

public import proofs.«01_k».proof.Proof.Region

@[expose] public section

set_option maxRecDepth 16384

noncomputable section

namespace Cert.HierProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The credit the cores start with -/

theorem recv_inj {j k : Fin 42} {c d : Dev nD} (h : recvCell k c = recvCell j d) : k = j ∧ c = d := by
  have h1 : c = d := congrArg (fun g : GSem nD τ sig => g.1.1) h
  have h2 : rsem k = rsem j := SemLoc.dma.inj (congrArg Prod.snd h)
  have h3 := congrArg dec h2
  rw [dec_rsem, dec_rsem, Option.some.injEq, Prod.mk.injEq] at h3
  exact ⟨h3.2, h1⟩

theorem dma_ne_bar (s : DmaSem sig) : (SemLoc.dma s : SemLoc sig) ≠ .reg barS := fun h => by cases h

theorem recv_ne_bar (k : Fin 42) (c d : Dev nD) : recvCell k c ≠ barCell d := fun h =>
  dma_ne_bar _ (congrArg Prod.snd h)

theorem sum_recv (j k : Fin 42) (c : Dev nD) :
    ∑ d : Dev nD, (tallyAt (recvCell j (pe j d)) () (N j) : CellTallies nD τ sig Unit) (recvCell k c) () = if k = j then N j else 0 := by
  rw [Finset.sum_congr rfl fun d _ => tallyAt_apply ..]
  by_cases h : k = j
  · subst h
    rw [if_pos rfl, Finset.sum_eq_single (pe k c) (fun d _ hd => if_neg fun hh => hd (by
        rw [(recv_inj hh.1).2, pe_pe])) (fun hn => absurd (Finset.mem_univ _) hn), pe_pe, if_pos ⟨rfl, rfl⟩]
  · rw [if_neg h]
    exact Finset.sum_eq_zero fun d _ => if_neg fun hh => h (recv_inj hh.1).1

theorem sum_Oc (k : Fin 42) (c : Dev nD) : ∀ n, n ≤ 42 → ∑ d : Dev nD, Oc d n (recvCell k c) () = if 41 - k.val < n then N k else 0
  | 0, _ => by
    rw [if_neg (Nat.not_lt_zero _)]
    exact Finset.sum_eq_zero fun d _ => rfl
  | n + 1, hn => by
    have e (d : Dev nD) : Oc d (n + 1) (recvCell k c) ()
        = Oc d n (recvCell k c) () + (tallyAt (recvCell (kk n) (pe (kk n) d)) () (N (kk n)) : CellTallies nD τ sig Unit) (recvCell k c) () := rfl
    rw [Finset.sum_congr rfl fun d _ => e d, Finset.sum_add_distrib, sum_Oc k c n (by omega), sum_recv]
    have hk : k = kk n ↔ 41 - k.val = n := by
      unfold kk
      constructor
      · intro h; rw [h]; show 41 - (41 - n) % 42 = n; omega
      · intro h; exact Fin.ext (by show k.val = (41 - n) % 42; omega)
    by_cases h : 41 - k.val = n
    · rw [if_neg (by omega), if_pos (hk.mpr h), if_pos (by omega), Nat.zero_add, ← hk.mpr h]
    · rw [if_neg (mt hk.mp h), Nat.add_zero]
      by_cases h' : 41 - k.val < n
      · rw [if_pos h', if_pos (by omega)]
      · rw [if_neg h', if_neg (by omega)]

theorem sum_Ob_recv (k : Fin 42) (c : Dev nD) : ∀ n, ∑ d : Dev nD, Ob d n (recvCell k c) () = N k
  | 0 => (sum_Oc k c 42 (le_refl _)).trans (if_pos (by omega))
  | n + 1 => by
    rw [← sum_Ob_recv k c n]
    refine Finset.sum_congr rfl fun d _ => ?_
    show (Ob d n + tallyAt _ () 1 : CellTallies nD τ sig Unit) (recvCell k c) () = _
    rw [Pi.add_apply, Finsupp.add_apply, tallyAt_ne_cell (recv_ne_bar k c _), Finsupp.zero_apply, Nat.add_zero]

theorem Oc_bar (d c : Dev nD) : ∀ n, Oc d n (barCell c) () = 0
  | 0 => rfl
  | n + 1 => by
    unfold Oc
    rw [Pi.add_apply, Finsupp.add_apply, Oc_bar d c n, tallyAt_ne_cell (recv_ne_bar _ _ _).symm, Finsupp.zero_apply, Nat.add_zero]

theorem sum_Ob_bar (c : Dev nD) : ∀ n, ∑ d : Dev nD, Ob d n (barCell c) () = n
  | 0 => Finset.sum_eq_zero fun d _ => Oc_bar d c 42
  | n + 1 => by
    have e (d : Dev nD) : Ob d (n + 1) (barCell c) ()
        = Ob d n (barCell c) () + (tallyAt (barCell (pr ⟨(4 - n) % 5, Nat.mod_lt _ (by decide)⟩ d)) () 1 : CellTallies nD τ sig Unit) (barCell c) () := rfl
    rw [Finset.sum_congr rfl fun d _ => e d, Finset.sum_add_distrib, sum_Ob_bar c n, Finset.sum_congr rfl fun d _ => tallyAt_apply ..,
      Finset.sum_eq_single (pr ⟨(4 - n) % 5, Nat.mod_lt _ (by decide)⟩ c) (fun d _ hd => if_neg fun hh => hd (by
        rw [show c = _ from congrArg (fun g : GSem nD τ sig => g.1.1) hh.1, pr_pr])) (fun hn => absurd (Finset.mem_univ _) hn), pr_pr, if_pos ⟨rfl, rfl⟩]

theorem launch_bar (c : Dev nD) :
    tallyOn (barCell c) (launchCredit (Pipeline.owing fun c => Ob c 5) 0 (barCell c)) = (tallyAt (barCell c) () 5 : CellTallies nD τ sig Unit) := by
  unfold tallyAt; refine congrArg _ (Finsupp.ext fun u => ?_); cases u
  rw [Pipeline.launchCredit_owing, Finsupp.single_eq_same, sum_Ob_bar]

theorem launch_recv (k : Fin 42) (c : Dev nD) :
    tallyOn (recvCell k c) (launchCredit (Pipeline.owing fun c => Ob c 5) 0 (recvCell k c)) = (tallyAt (recvCell k c) () (N k) : CellTallies nD τ sig Unit) := by
  unfold tallyAt; refine congrArg _ (Finsupp.ext fun u => ?_); cases u
  rw [Pipeline.launchCredit_owing, Finsupp.single_eq_same, sum_Ob_recv]

def rsemEmb : Fin 42 ↪ SemLoc sig := ⟨fun k => .dma (rsem k), fun j k h => by
  have h := congrArg dec (SemLoc.dma.inj h)
  rw [dec_rsem, dec_rsem, Option.some.injEq, Prod.mk.injEq] at h
  exact h.2⟩

omit [FloatOps F] in
theorem creds (c : Dev nD) : (Pipeline.launchCred (fun c => Ob c 5) c : sProp 𝕄)
    ⊢ iprop(cred (tallyAt (barCell c) () 5) ∗ bigSep Finset.univ fun k => cred (tallyAt (recvCell k c) () (N k))) := by
  unfold Pipeline.launchCred
  rw [bigSep_univ_at _ (SemLoc.reg barS), launch_bar]
  refine sep_mono_right ((bigSep_subset (t := Finset.univ.map rsemEmb) fun a ha => ?_).trans ?_)
  · obtain ⟨k, -, rfl⟩ := Finset.mem_map.mp ha
    exact Finset.mem_erase.mpr ⟨dma_ne_bar _, Finset.mem_univ _⟩
  · rw [bigSep_map]
    exact bigSep_mono fun k _ => Entails.of_eq (congrArg cred (launch_recv k c))

/-! ## The cells and tokens -/

def barEmb : Dev nD ↪ GSem nD τ sig := ⟨fun c => barCell c, fun _ _ h => congrArg (fun g : GSem nD τ sig => g.1.1) h⟩
def copyEmb : Dev nD × (Fin 42 ⊕ Fin 42) ↪ GSem nD τ sig :=
  ⟨fun p => ((p.1 : Thread nD τ), osem p.2), fun _ _ h =>
    Prod.ext (congrArg (fun g : GSem nD τ sig => g.1.1) h) (osem_inj (congrArg Prod.snd h))⟩

abbrev barCells : Finset (GSem nD τ sig) := Finset.univ.map barEmb
abbrev copyCells : Finset (GSem nD τ sig) := Finset.univ.map copyEmb

/-- A duty of a core's own cells: its cell and number. -/
def duty : Fin 5 ⊕ (Fin 42 ⊕ Fin 42) → SemLoc sig × Fin 5 := Sum.elim (fun i => (.reg barS, i)) fun a => (osem a, 0)

theorem osem_ne_bar (a : Fin 42 ⊕ Fin 42) : osem a ≠ .reg barS := by
  obtain ⟨s, hs, -⟩ := dec_osem a
  rw [hs]; exact dma_ne_bar s

theorem duty_inj : Function.Injective duty := by
  intro a b h
  rcases a with i | a <;> rcases b with j | b <;> simp only [duty, Sum.elim_inl, Sum.elim_inr, Prod.mk.injEq] at h
  · rw [h.2]
  · exact absurd h.1.symm (osem_ne_bar b)
  · exact absurd h.1 (osem_ne_bar a)
  · rw [osem_inj h.1]

def tokEmb : Dev nD × (Fin 5 ⊕ (Fin 42 ⊕ Fin 42)) ↪ GSem nD τ sig × ℕ × Fin 5 :=
  ⟨fun p => (((p.1 : Thread nD τ), (duty p.2).1), 0, (duty p.2).2), fun _ _ h =>
    Prod.ext (congrArg (fun t : GSem nD τ sig × ℕ × Fin 5 => t.1.1.1) h)
      (duty_inj (Prod.ext (congrArg (fun t : GSem nD τ sig × ℕ × Fin 5 => t.1.2) h) (congrArg (fun t : GSem nD τ sig × ℕ × Fin 5 => t.2.2) h)))⟩
abbrev toks : Finset (GSem nD τ sig × ℕ × Fin 5) := Finset.univ.map tokEmb

theorem disjoint_cells : Disjoint (barCells : Finset (GSem nD τ sig)) copyCells := by
  rw [Finset.disjoint_left]
  rintro g h₁ h₂
  obtain ⟨c, -, rfl⟩ := Finset.mem_map.mp h₁
  obtain ⟨p, -, h⟩ := Finset.mem_map.mp h₂
  exact osem_ne_bar p.2 (congrArg Prod.snd h)

theorem cellAt_mem (i : Dev nD × Option (Bool × Fin 42)) : cellAt i ∈ (barCells ∪ copyCells : Finset (GSem nD τ sig)) := by
  obtain ⟨c, - | ⟨- | -, k⟩⟩ := i
  · exact Finset.mem_union_left _ (Finset.mem_map_of_mem barEmb (Finset.mem_univ c))
  · exact Finset.mem_union_right _ (Finset.mem_map.mpr ⟨(c, .inl k), Finset.mem_univ _, rfl⟩)
  · exact Finset.mem_union_right _ (Finset.mem_map.mpr ⟨(c, .inr k), Finset.mem_univ _, rfl⟩)

/-- What the program's proof owns at the start. -/
def u₀ : UU :=
  (initOf (Pipeline.cells (nD := nD) (τ := τ) (Pipeline.pin (pcfgs (F := F)) adm) cellOf_inj)
      (Pipeline.launchToks (nD := nD) (τ := τ) (Pipeline.pin (pcfgs (F := F)) adm) cellOf_inj),
    launchOf barCells copyCells toks)

/-- All of it on one core. -/
def onDev (X : sProp 𝕄) (c : Dev nD) : sProp 𝕄 := if c = 0 then X else iprop(emp)

omit [FloatOps F] in
theorem bigSep_onDev (X : sProp 𝕄) : bigSep Finset.univ (onDev X) = X := by
  rw [bigSep_univ_at _ (0 : Dev nD), bigSep_congr (s := Finset.univ.erase 0) (Ψ := fun _ => (BI.emp : sProp 𝕄))
    fun c hc => by unfold onDev; rw [if_neg (Finset.ne_of_mem_erase hc)]; rfl, BI.bigSep_emp_const]
  unfold onDev; rw [if_pos rfl]
  exact BI.equiv_iff.mp sep_emp

def G : Dev nD → sProp 𝕄 := onDev (BI.own (ER (launchOf barCells copyCells toks)))

/-! ## Every core's share -/

omit [FloatOps F] in
/-- A family over cores and numbers, each number's members moved by a swap of the cores. -/
theorem around {I : Type} [Fintype I] (e : I → Dev nD → Dev nD) (he : ∀ i c, e i (e i c) = c) (Φ : I → Dev nD → sProp 𝕄) :
    (bigSep Finset.univ fun c => bigSep Finset.univ fun i => Φ i c) = bigSep Finset.univ fun c => bigSep Finset.univ fun i => Φ i (e i c) := by
  rw [Pipeline.bigSep_univ_comm fun c i => Φ i c, Pipeline.bigSep_univ_comm fun c i => Φ i (e i c)]
  exact bigSep_congr fun i _ => bigSep_univ_equiv ⟨e i, e i, he i, he i⟩ (Φ i)

def tokBar (c : Dev nD) : sProp 𝕄 := bigSep Finset.univ fun i => dutyTok ER (barCell (pr i c)) 0 i
def tokSend (c : Dev nD) : sProp 𝕄 := bigSep Finset.univ fun k => dutyTok ER (sendCell k c) 0 0
def tokRecv (c : Dev nD) : sProp 𝕄 := bigSep Finset.univ fun k => dutyTok ER (recvCell k (pe k c)) 0 0

omit [FloatOps F] in
theorem toks_eq : bigSep toks (fun t => (dutyTok ER t.1 t.2.1 t.2.2 : sProp 𝕄))
    = bigSep Finset.univ fun c : Dev nD => iprop(tokBar c ∗ tokSend c ∗ tokRecv c) := by
  rw [bigSep_map, bigSep_univ_prod]
  refine (bigSep_congr fun c _ => (bigSep_univ_sum _).trans (congrArg _ (bigSep_univ_sum _))).trans ?_
  have h1 := around (F := F) pr pr_pr fun i c => dutyTok ER (barCell c) 0 i
  have h2 := around (F := F) pe pe_pe fun k c => dutyTok ER (recvCell k c) 0 0
  refine ((bigSep_sep _ _ _).trans ?_).trans (bigSep_sep _ _ _).symm
  refine congrArg₂ _ h1 ?_
  refine ((bigSep_sep _ _ _).trans ?_).trans (bigSep_sep _ _ _).symm
  exact congrArg₂ _ rfl h2

variable (m : (l : Loc nD τ sig) → Buf (Elt F) l) (ρ : Dev nD → PrngReg)

/-- The buffers at the start. -/
abbrev V₀ (c : Dev nD) : Valuation τ sig (Elt F) := fun b => m (c, b)

omit [FloatOps F] in
theorem fam_out (Φ Ψ : Dev nD → sProp 𝕄) :
    (bigSep Finset.univ fun c => iprop(Φ c ∗ Ψ c)) ⊢ iprop(bigSep Finset.univ Φ ∗ bigSep Finset.univ Ψ) := Entails.of_eq (bigSep_sep _ _ _)
omit [FloatOps F] in
theorem fam_in (Φ Ψ : Dev nD → sProp 𝕄) :
    iprop(bigSep Finset.univ Φ ∗ bigSep Finset.univ Ψ) ⊢ bigSep Finset.univ fun c => iprop(Φ c ∗ Ψ c) := Entails.of_eq (bigSep_sep _ _ _).symm

/-- What every core may use: all the cells' invariants, every barrier cell at its first round. -/
def records (κ : GSem nD τ sig → ℕ) : sProp 𝕄 :=
  iprop((bigSep (barCells ∪ copyCells) fun g => cellInv ER (Rd (xs m)) (κ g) g) ∗ bigSep barCells fun g => reached ER g 0)

instance records_persistent (κ : GSem nD τ sig → ℕ) : BI.Persistent (records m κ) := by unfold records; infer_instance

theorem records_invs (κ : GSem nD τ sig → ℕ) : records m κ ⊢ Invs m fun i => κ (cellAt i) := by
  unfold records Invs
  refine (sep_mono_left ((bigSep_of_persistent Finset.univ _).trans (bigSep_mono fun i _ => bigSep_elim (cellAt_mem i)))).trans ?_
  iintro ⟨H, -⟩
  iexact H

theorem records_bar (κ : GSem nD τ sig → ℕ) (c : Dev nD) : records m κ ⊢ reached ER (barCell c) 0 := by
  unfold records
  refine (sep_mono_right (bigSep_elim (Finset.mem_map_of_mem barEmb (Finset.mem_univ c)))).trans ?_
  iintro ⟨-, H⟩
  iexact H

/-- What is one core's alone. -/
def linear (c : Dev nD) : sProp 𝕄 :=
  iprop(atPos ER (barCell c) 0 ∅ 0 ∗ ((bigSep Finset.univ fun k => openTok ER (sendCell k c)) ∗ bigSep Finset.univ fun k => openTok ER (recvCell k c))
    ∗ (tokBar c ∗ tokSend c ∗ tokRecv c))

/-- What it has besides: its buffers, its credit, what it owes and its generator register. -/
def bundle (c : Dev nD) : sProp 𝕄 :=
  iprop(StableHlo.held (c : Thread nD τ) (Pipeline.ucRefs τ sig) (V₀ m c)
    ∗ (cred (tallyAt (barCell c) () 5) ∗ bigSep Finset.univ fun k => cred (tallyAt (recvCell k c) () (N k)))
    ∗ owes (c : Thread nD τ) (Ob c 5) ∅ ∗ ∃ r, prngReg c r)

/-- What rides beside the buffers up to the kernel's region. -/
def R (c : Dev nD) : sProp 𝕄 := iprop(Tk m c ∗ (∃ r, prngReg c r) ∗ ∃ W, owes (c : Thread nD τ) (Ob c 5) W)

theorem Cls (c : Dev nD) :
    iprop((bigSep Finset.univ fun k => openTok ER (sendCell k c)) ∗ (bigSep Finset.univ fun k => openTok ER (recvCell k c))
      ∗ tokSend c ∗ tokRecv c ∗ bigSep Finset.univ fun k => cred (tallyAt (recvCell k c) () (N k)))
    ⊢ (bigSep Finset.univ fun k => Cl c k : sProp 𝕄) := by
  unfold tokSend tokRecv Cl
  refine Entails.of_eq ?_
  refine .trans ?_ (bigSep_sep _ _ _).symm
  refine congrArg₂ _ rfl (.trans ?_ (bigSep_sep _ _ _).symm)
  refine congrArg₂ _ rfl (.trans ?_ (bigSep_sep _ _ _).symm)
  exact congrArg₂ _ rfl (bigSep_sep _ _ _).symm

theorem bars (κ : GSem nD τ sig → ℕ) (c : Dev nD) : iprop(records m κ ∗ tokBar c)
    ⊢ (bigSep Finset.univ fun i => iprop(dutyTok ER (barCell (pr i c)) 0 i ∗ reached ER (barCell (pr i c)) 0) : sProp 𝕄) := by
  unfold tokBar
  refine bigSep_with_persistent fun i _ => ?_
  iintro ⟨#HR, Ht⟩
  isplitl; · iexact Ht
  iapply (records_bar m κ (pr i c)); iexact HR

abbrev T₀ (c : Dev nD) : sProp 𝕄 :=
  iprop(StableHlo.held (c : Thread nD τ) (Pipeline.ucRefs τ sig) (V₀ m c) ∗ R m c)

theorem T₀_intro (κ : GSem nD τ sig → ℕ) (c : Dev nD) : iprop(records m κ ∗ (linear c ∗ bundle m c)) ⊢ T₀ m c := by
  unfold T₀ linear bundle R Tk Bar
  iintro ⟨#HR, ⟨Ha, ⟨Ho1, Ho2⟩, Ht1, Ht2, Ht3⟩, Hh, ⟨Hc1, Hc2⟩, HO, Hp⟩
  isplitl [Hh]; · iexact Hh
  isplitr [HO Hp]
  · isplitr
    · iexists fun i => κ (cellAt i); iapply (records_invs m κ); iexact HR
    isplitl [Ha Ht1 Hc1]
    · isplitl [Ht1]
      · iapply (bars m κ c)
        isplitr; · iexact HR
        iexact Ht1
      isplitl [Hc1] <;> iassumption
    iapply (Cls c)
    isplitl [Ho1]; · iexact Ho1
    isplitl [Ho2]; · iexact Ho2
    isplitl [Ht2]; · iexact Ht2
    isplitl [Ht3] <;> iassumption
  isplitl [Hp]; · iexact Hp
  iexists ∅; iexact HO

theorem unscopedSems0_eq (c : Dev nD) : (unscopedSems0 c : sProp 𝕄) = semVal (barCell c) 0 := by
  unfold unscopedSems0
  rw [bigSep_eq_bigSepL_of_eq [SemLoc.reg barS] (by decide) (by decide)]
  rfl

theorem init :
    iprop((bigSep Finset.univ fun c : Dev nD => iprop(unscopedBufs c (fun b => m ((c : Thread nD τ).loc b)) ∗ unscopedSems0 c
          ∗ owes (c : Thread nD τ) (Ob c 5) ∅ ∗ Pipeline.launchCred (fun c => Ob c 5) c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (Ob c 5) ∅ ∗ Pipeline.launchCred (fun c => Ob c 5) c ∗ prngReg c (ρ c) ∗ G c)
      ⊢ (iprop(bundle m c ∗ (semVal (barCell c) 0 ∗ G c)) : sProp 𝕄) := by
    rw [show unscopedBufs c (fun b => m ((c : Thread nD τ).loc b)) = StableHlo.held (c : Thread nD τ) (Pipeline.ucRefs τ sig) (V₀ m c)
      from Pipeline.unscopedBufs_held c (V₀ m c), unscopedSems0_eq]
    unfold bundle
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have ho : bigSep copyCells (fun g => (openTok ER g : sProp 𝕄))
      ⊢ bigSep Finset.univ (fun c : Dev nD => iprop((bigSep Finset.univ fun k => openTok ER (sendCell k c)) ∗ bigSep Finset.univ fun k => openTok ER (recvCell k c))) :=
    Entails.of_eq (by
      rw [bigSep_map, bigSep_univ_prod]
      exact bigSep_congr fun c _ => bigSep_univ_sum _)
  iintro ⟨H, -⟩
  ihave H' := (show (bigSep Finset.univ fun c : Dev nD => iprop(unscopedBufs c (fun b => m ((c : Thread nD τ).loc b)) ∗ unscopedSems0 c
          ∗ owes (c : Thread nD τ) (Ob c 5) ∅ ∗ Pipeline.launchCred (fun c => Ob c 5) c ∗ prngReg c (ρ c) ∗ G c))
      ⊢ (bigSep Finset.univ fun c : Dev nD => iprop(bundle m c ∗ (semVal (barCell c) 0 ∗ G c)) : sProp 𝕄) from bigSep_mono fun c _ => hcore c) $$ H
  ihave H2 := (fam_out _ _) $$ H'; icases H2 with ⟨HB, H3⟩
  ihave H4 := (fam_out _ _) $$ H3; icases H4 with ⟨Hv, HG⟩
  ihave Hu := (show bigSep Finset.univ (G (F := F)) ⊢ BI.own (ER (launchOf barCells copyCells toks)) from
    Entails.of_eq (bigSep_onDev (F := F) (BI.own (ER (launchOf barCells copyCells toks))))) $$ HG
  imod (Rounds.fund_launch ER (Rd (xs m)) disjoint_cells (fun g _ h => h) toks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(linear c ∗ bundle m c)) fun c _ => T₀_intro m κ c)
  isplitr
  · unfold records
    isplitr; · iexact Hinv
    iexact Hr
  iapply (fam_in _ _)
  isplitr [HB]
  · unfold linear
    iapply (fam_in _ _); isplitl [Hat]; · iapply hat $$ Hat
    iapply (fam_in _ _); isplitl [Hopen]; · iapply ho $$ Hopen
    iapply (Entails.of_eq (toks_eq (F := F))) $$ Htok
  · iexact HB

/-! ## The run -/

omit [FloatOps F] in
theorem bufs_eq (c : Dev nD) (W : Valuation τ sig (Elt F)) : (StableHlo.held (c : Thread nD τ) (Pipeline.ucRefs τ sig) W : sProp 𝕄)
    = iprop(((c : Thread nD τ).loc main_arg0 ↦{fullShare} W (Proc.devRef .tc main_arg0)) ∗ ((c : Thread nD τ).loc main_v1 ↦{fullShare} W (Proc.devRef .tc main_v1))
      ∗ ((c : Thread nD τ).loc main_v2 ↦{fullShare} W (Proc.devRef .tc main_v2))) := by
  unfold StableHlo.held
  rw [bigSep_eq_bigSepL_of_eq [Proc.devRef .tc main_arg0, Proc.devRef .tc main_v1, Proc.devRef .tc main_v2] (by decide) (by decide)]
  rfl

omit [FloatOps F] in
theorem arrs_eq (c : Dev nD) (W : Valuation τ sig (Elt F)) : (StableHlo.held (c : Thread nD τ) (Pipeline.arrRefs (τ := τ) spec0) W : sProp 𝕄)
    = iprop(((c : Thread nD τ).loc main_v1 ↦{fullShare} W (Proc.devRef .tc main_v1)) ∗ ((c : Thread nD τ).loc main_v2 ↦{fullShare} W (Proc.devRef .tc main_v2))) := by
  unfold StableHlo.held
  rw [bigSep_eq_bigSepL_of_eq [Proc.devRef .tc main_v1, Proc.devRef .tc main_v2] (by decide) (by decide)]
  rfl

local notation "ℍ" => Pipeline.HostSeg (Name := ℕ) (U := UU) (pcfgs (F := F)) defs₀ 𝒱₀ L lv

/-- The reshape before the kernel. -/
def seg0 : ℍ := Pipeline.HostSeg.ofOps _ _ _ _ _ (Pipeline.ucRefs τ sig) hostOps0
  (fun op h => Pipeline.sub_ucRefs op (List.forall_iff_forall_mem.mp hostOps0_sub op h))
  (fun op h => List.forall_iff_forall_mem.mp hostOps0_fresh op h) (V₀ m) (R m)

theorem reg_pre (c : Dev nD) : iprop(StableHlo.held (c : Thread nD τ) (Pipeline.ucRefs τ sig) (V₁ m c) ∗ R m c) ⊢ (reg m).pre c := by
  show _ ⊢ iprop(StableHlo.held (c : Thread nD τ) (Pipeline.arrRefs (τ := τ) spec0) (V₁ m c) ∗ (∃ r, prngReg c r)
    ∗ (StableHlo.held (c : Thread nD τ) ∅ (V₁ m c) ∗ Arg m c) ∗ Tk m c ∗ ∃ Wd, owes (c : Thread nD τ) (0 + Ob c 5) Wd)
  rw [bufs_eq, arrs_eq, zero_add, show V₁ m c (Proc.devRef .tc main_arg0) = m ((c : Thread nD τ).loc main_arg0) from V_main_arg0 m c]
  unfold R Arg StableHlo.held
  rw [bigSep_empty]
  iintro ⟨⟨Ha, H1, H2⟩, HT, Hp, HO⟩
  isplitl [H1 H2]; · isplitl [H1] <;> iassumption
  isplitl [Hp]; · iexact Hp
  isplitl [Ha]
  · isplitr; · iempintro
    iexact Ha
  isplitl [HT] <;> iassumption

abbrev Tₙ (c : Dev nD) : sProp 𝕄 :=
  iprop(StableHlo.held (c : Thread nD τ) (Pipeline.arrRefs (τ := τ) spec0) (V₂ m c) ∗ Arg m c ∗ semVal (barCell c) 0)

theorem reg_post (c : Dev nD) : (reg m).post c ⊢ iprop(Tₙ m c ∗ ∃ W, owes (c : Thread nD τ) (0 : CellTallies nD τ sig Unit) W) := by
  show iprop(StableHlo.held (c : Thread nD τ) (Pipeline.arrRefs (τ := τ) spec0) (V₂ m c) ∗ (∃ r, prngReg c r)
    ∗ (StableHlo.held (c : Thread nD τ) ∅ (V₂ m c) ∗ Arg m c) ∗ Yk c ∗ ∃ Wd, owes (c : Thread nD τ) (0 : CellTallies nD τ sig Unit) Wd) ⊢ _
  unfold Tₙ Yk
  iintro ⟨Hh, -, ⟨-, Ha⟩, Hb, HO⟩
  isplitr [HO]
  · isplitl [Hh]; · iexact Hh
    isplitl [Ha] <;> iassumption
  iexact HO

def segs : List (Pipeline.Seg (pcfgs (F := F)) adm (pdats m) () defs₀ 𝒱₀ L lv) := [.host (seg0 m), .region (reg m)]

theorem main_eq (c : Dev nD) : main (F := F) c = Pipeline.Seg.run (segs m) :=
  main_segs adm (pdats m) () 𝒱₀ L lv (seg0 m) (reg m) rfl c

theorem unscoped_eq : ∀ sm : SemLoc sig, sm.isScoped .tc = false → sm = .reg barS := by decide

set_option backward.isDefEq.respectTransparency.types false in
/-- Every run of the program ends, with every core's result the all-reduced matrix, its argument as it was, and every
    counter at zero. -/
theorem run_main : θ_run defs (onTc (τ := τ) (main (F := F))) (s₀ m ρ)
    (fun r => (∀ c : Dev nD, r.2.mem ((c : Thread nD τ).loc main_v2) = out m c
        ∧ r.2.mem ((c : Thread nD τ).loc main_arg0) = m ((c : Thread nD τ).loc main_arg0)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := fun c => Ob c 5) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [bigSep_onDev]; iexact HX)
    (T₀ := T₀ m) (Tₙ := Tₙ m)
    (hch := ⟨fun c => .rfl, fun c => reg_pre m c, fun c => reg_post m c⟩)
    (hinit := init m ρ)
    (QY := fun c s => (s.mem ((c : Thread nD τ).loc main_v2) = out m c ∧ s.mem ((c : Thread nD τ).loc main_arg0) = m ((c : Thread nD τ).loc main_arg0))
      ∧ s.sem (barCell c) = 0)
    (hfin := fun c s' => by
      dsimp only [Tₙ]; rw [arrs_eq, V₂_out]; unfold Arg
      iintro ⟨⟨⟨-, Hy⟩, Hx, Hb0⟩, HSI⟩
      icombine HSI Hx gives %hx
      icombine HSI Hy gives %hy
      icombine HSI Hb0 gives %hb
      imodintro
      isplitr
      · ipureintro
        exact ⟨⟨Buf.eq_of_forall_mem_univ hy, Buf.eq_of_forall_mem_univ hx⟩, by simpa using hb⟩
      iexact HSI)
    (hQ := fun s h hs => ⟨fun c => (h c).1,
      sem_eq_zero hs fun c sm hsm => by
        obtain rfl := unscoped_eq sm hsm
        exact (h c).2⟩)

end Cert.HierProof

end
-- ==== Proof.Sum.lean ====
/- The result as a sum: what the kernel leaves is, at exact arithmetic, the sum over all sixteen devices, and so is the
   reference's reduction over its three leading axes. -/
module

public import proofs.«01_k».proof.Proof.Launch
public import proofs.«01_k».proof.Proof.Gen.ReferenceIdeal.Run
public import Idealize.ShloMosaic.Lib.IdealHost
public import Idealize.ShloMosaic.Lib.Layout

@[expose] public section

set_option maxRecDepth 16384

noncomputable section

namespace Cert.HierProof

open Cert.KernelIdeal Cert.KernelIdeal.Gen
open Idealize.ShloMosaic Idealize.ShloMosaic.TcCoe
open Idealize.SL.Sem

/-! ## The kernel's sum -/

/-- Flipping every pattern of coordinates of one device meets each device once. -/
theorem fl_bij (c : Dev nD) : Function.Bijective fun d : Dev nD => fl d.val c :=
  Function.Involutive.bijective fun d => (show ∀ c d : Dev nD, fl (fl d.val c).val c = d by decide +kernel) c d

/-- A sum over the devices, in the order of the flips of `c`. -/
theorem sum_flips (f : Dev nD → EReal) (c : Dev nD) : ∑ d, f d = ∑ d : Dev nD, f (fl d.val c) :=
  (Function.Bijective.sum_comp (fl_bij c) f).symm

theorem pl_apply (a b : Fld Ideal) (i j : ℕ) : pl a b i j = (a i j + b i j : EReal) := rfl

theorem sum_dev (f : Dev nD → EReal) : ∑ d, f d = f 0 + f 1 + f 2 + f 3 + f 4 + f 5 + f 6 + f 7 + f 8 + f 9 + f 10 + f 11 + f 12 + f 13
    + f 14 + f 15 := by
  show ∑ d : Fin 16, f d = _
  simp only [Fin.sum_univ_succ, Finset.univ_eq_empty, Finset.sum_empty, add_zero, ← add_assoc]
  rfl

variable (x : Dev nD → Fld Ideal)

theorem vA_sum (c : Dev nD) (i j : ℕ) : vA x c i j = (∑ d, x d i j : EReal) := by
  rw [sum_flips (fun d => x d i j) c, sum_dev]
  simp (discharger := decide) only [vA, vT, vS, pl_apply, fl_fl, Nat.reduceXor]
  show _ = x (fl 0 c) i j + x (fl 1 c) i j + x (fl 2 c) i j + x (fl 3 c) i j + x (fl 4 c) i j + x (fl 5 c) i j + x (fl 6 c) i j
    + x (fl 7 c) i j + x (fl 8 c) i j + x (fl 9 c) i j + x (fl 10 c) i j + x (fl 11 c) i j + x (fl 12 c) i j + x (fl 13 c) i j
    + x (fl 14 c) i j + x (fl 15 c) i j
  rw [fl_zero]
  ac_rfl

theorem vB_sum (c : Dev nD) (i j : ℕ) : vB x c i j = (∑ d, x d i j : EReal) := by
  rw [sum_flips (fun d => x d i j) c, sum_dev]
  simp (discharger := decide) only [vB, vU2, vU1, pl_apply, fl_fl, Nat.reduceXor]
  show _ = x (fl 0 c) i j + x (fl 1 c) i j + x (fl 2 c) i j + x (fl 3 c) i j + x (fl 4 c) i j + x (fl 5 c) i j + x (fl 6 c) i j
    + x (fl 7 c) i j + x (fl 8 c) i j + x (fl 9 c) i j + x (fl 10 c) i j + x (fl 11 c) i j + x (fl 12 c) i j + x (fl 13 c) i j
    + x (fl 14 c) i j + x (fl 15 c) i j
  rw [fl_zero]
  ac_rfl

theorem vG_sum (i j : ℕ) : vG x i j = (∑ d, x d i j : EReal) := by
  unfold vG; split
  · exact vA_sum x _ i j
  · exact vB_sum x _ i j

/-! ## A device's block -/

/-- One device's block of the whole array, and the whole. -/
abbrev Sd : Shape := ⟨5, ![1, 1, 1, 2048, 1024]⟩
abbrev Sw : Shape := ⟨5, ![2, 2, 4, 2048, 1024]⟩

/-- The element of the whole array that device `d` holds at row and column `p`. -/
def spot (d : Dev nD) (p : (rs 2048).Idx) : Sw.Idx :=
  Fin.cons ⟨d.val / 8, Nat.div_lt_of_lt_mul d.isLt⟩ (Fin.cons ⟨d.val / 4 % 2, Nat.mod_lt _ (by decide)⟩
    (Fin.cons ⟨d.val % 4, Nat.mod_lt _ (by decide)⟩ (Fin.cons (p 0) (Fin.cons (p 1) finZeroElim))))

/-- The one matrix of a block of shape one by one by one by matrix: the row and column are the last two coordinates. -/
def deep (p : (rs 2048).Idx) : Sd.Idx :=
  Fin.cons ⟨0, Nat.one_pos⟩ (Fin.cons ⟨0, Nat.one_pos⟩ (Fin.cons ⟨0, Nat.one_pos⟩ (Fin.cons (p 0) (Fin.cons (p 1) finZeroElim))))

/-- A block's one matrix, entry by entry. -/
theorem cast_spot (w : Sw.Idx → EReal) (d : Dev nD) (p : (rs 2048).Idx) (h : Sd.ShapeCasts (rs 2048)) (ht) :
    shapeCast (rs 2048) (Layout.blockN Sd Sw (Layout.meshBlock [2, 2, 4] ![[0], [1], [2], [], []] d) w ht) h p = w (spot d p) := by
  unfold shapeCast
  rw [Layout.blockN_apply, show Shape.reshapeEquiv h p = deep p from Shape.reshapeEquiv_eq_of_rowMajor _ (by
    rw [Shape.rowMajor_val_five, Shape.rowMajor_val_two]
    show (((0 * 1 + 0) * 1 + 0) * 2048 + (p 0).val) * 1024 + (p 1).val = (p 0).val * 1024 + (p 1).val
    omega)]
  refine congrArg w (funext fun b => Fin.ext ?_)
  rw [Layout.TilesN.idx_val]
  have hd : d.val < 16 := d.isLt
  fin_cases b
  · show (d.val / 8 % 2 * 1 + 0) * 1 + 0 = d.val / 8
    omega
  · show (d.val / 4 % 2 * 1 + 0) * 1 + 0 = d.val / 4 % 2
    omega
  · show (d.val / 1 % 4 * 1 + 0) * 1 + 0 = d.val % 4
    omega
  · show 0 * 2048 + (p 0).val = (p 0).val
    omega
  · show 0 * 1024 + (p 1).val = (p 1).val
    omega

/-! ## The reference's sum -/

/-- The device that holds an element of the whole array. -/
def holder (i : Sw.Idx) : Dev nD := ⟨((i 0).val * 8 + (i 1).val * 4 + (i 2).val) % 16, Nat.mod_lt _ (by decide)⟩

theorem holder_spot (d : Dev nD) (p : (rs 2048).Idx) : holder (spot d p) = d := by
  refine Fin.ext ?_
  show (d.val / 8 * 8 + d.val / 4 % 2 * 4 + d.val % 4) % 16 = d.val
  have hd : d.val < 16 := d.isLt
  omega

theorem spot_holder (i : Sw.Idx) (p : (rs 2048).Idx) (h0 : (i 3).val = (p 0).val) (h1 : (i 4).val = (p 1).val) :
    spot (holder i) p = i := by
  have b0 : (i 0).val < 2 := (i 0).isLt
  have b1 : (i 1).val < 2 := (i 1).isLt
  have b2 : (i 2).val < 4 := (i 2).isLt
  refine funext fun b => Fin.ext ?_
  fin_cases b
  · show ((i 0).val * 8 + (i 1).val * 4 + (i 2).val) % 16 / 8 = (i 0).val
    omega
  · show ((i 0).val * 8 + (i 1).val * 4 + (i 2).val) % 16 / 4 % 2 = (i 1).val
    omega
  · show ((i 0).val * 8 + (i 1).val * 4 + (i 2).val) % 16 % 4 = (i 2).val
    omega
  · exact h0.symm
  · exact h1.symm

/-- The reduction over the three leading axes adds the sixteen devices' entries. -/
theorem reduce_sum (w : Sw.Idx → EReal) (h : Sw.ReducesTo [0, 1, 2] (rs 2048)) (p : (rs 2048).Idx) :
    Ideal.hostReduceAdd h w 0 p = ∑ d : Dev nD, w (spot d p) := by
  unfold Ideal.hostReduceAdd
  rw [zero_add]
  have e3 : ∀ i : Sw.Idx, (h.drop i 0 : ℕ) = i 3 := fun i => Shape.ReducesTo.drop_apply_val_of_eq h i 0 3
  have e4 : ∀ i : Sw.Idx, (h.drop i 1 : ℕ) = i 4 := fun i => Shape.ReducesTo.drop_apply_val_of_eq h i 1 4
  refine Finset.sum_nbij' holder (fun d => spot d p) (fun _ _ => Finset.mem_univ _) (fun d _ => ?_) (fun i hi => ?_)
    (fun d _ => holder_spot d p) (fun i hi => ?_)
  · refine Finset.mem_filter.mpr ⟨Finset.mem_univ _, funext fun b => Fin.ext ?_⟩
    fin_cases b
    · exact e3 (spot d p)
    · exact e4 (spot d p)
  · have hp := (Finset.mem_filter.mp hi).2
    exact spot_holder i p ((e3 i).symm.trans (by rw [hp])) ((e4 i).symm.trans (by rw [hp]))
  · have hp := (Finset.mem_filter.mp hi).2
    rw [spot_holder i p ((e3 i).symm.trans (by rw [hp])) ((e4 i).symm.trans (by rw [hp]))]

/-! ## The two agree -/

/-- What a core finds in its input: its argument, as a matrix. -/
theorem inp_eq (m : (ℓ : Loc nD τ sig) → Buf (Elt Ideal) ℓ) (c : Dev nD) :
    inp m c = shapeCast (rs 2048) (m ((c : Thread nD τ).loc main_arg0)) shapeCasts_S1x1x1x2048x1024_S2048x1024 := by
  show StableHlo.after hostOps0 (fun b => m (c, b)) (Proc.devRef .tc main_v1) = _
  after_results
  rfl

/-- The kernel's result is the reference's. -/
theorem out_eq (m : (ℓ : Loc nD τ sig) → Buf (Elt Ideal) ℓ) (w : Sw.Idx → EReal) (ht)
    (hm : ∀ c : Dev nD, m ((c : Thread nD τ).loc main_arg0) = Layout.blockN Sd Sw (Layout.meshBlock [2, 2, 4] ![[0], [1], [2], [], []] c) w ht)
    (c : Dev nD) (h : Sw.ReducesTo [0, 1, 2] (rs 2048)) : out m c = Ideal.hostReduceAdd h w 0 := by
  funext p
  rw [reduce_sum]
  show vG (xs m) (p 0).val (p 1).val = _
  rw [vG_sum]
  refine Finset.sum_congr rfl fun d _ => ?_
  show toF (h := 2048) (inp m d) (p 0).val (p 1).val = _
  rw [toF_idx, inp_eq, hm d]
  exact cast_spot w d p _ _

end Cert.HierProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Sum
public import Idealize.ShloMosaic.Adequacy
public import Idealize.ShloMosaic.Init

@[expose] public section

noncomputable section

namespace Cert.Proof

open Idealize.ShloMosaic Idealize.SL.Sem Cert.Kernel

/-- The kernel's run, over any float values: the arguments end as they were and every counter ends at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  (θ_run Cert.KernelIdeal.defs _ _).mono (fun _ h => ⟨fun c => (h.1 c).2, h.2⟩) (Cert.HierProof.run_main m ρ)

/-- The two programs' kernels are one text. -/
theorem bodies_eq : Cert.Kernel.defs₀ (F := Bits) = Cert.KernelIdeal.defs₀ (F := Bits) := by
  unfold Cert.Kernel.defs₀ Cert.KernelIdeal.defs₀
  refine congrArg Defs.onTc (funext fun l => funext fun p => ?_)
  obtain ⟨l, hl⟩ := l
  cases l with
  | zero => obtain ⟨t, s⟩ := p; exact rfl
  | succ n => exact absurd hl (by omega)

theorem defs_eq : Cert.Kernel.defs (F := Bits) = Cert.KernelIdeal.defs (F := Bits) := congrArg (Pipeline.defs _) bodies_eq

/-- The kernel as printed: its text is the idealized program's, read at machine floats. -/
theorem frame_kernel : Cert.quiescent_Kernel := fun m ρ _ => by
  rw [defs_eq]
  exact frame_any (F := Bits) m ρ

theorem frame_ideal : Cert.quiescent_KernelIdeal := fun m ρ _ => frame_any (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every core's result is the reference's sum. -/
theorem value : Cert.algebraic_KernelIdeal_ReferenceIdeal := fun m ρ m' ρ' _ hm => by
  refine ⟨_, (θ_run Cert.KernelIdeal.defs _ _).mono (fun _ h c => ⟨(h.1 c).1.trans ?_, (h.1 c).2⟩) (Cert.HierProof.run_main (F := Ideal) m ρ),
    (θ_run Cert.ReferenceIdeal.defs _ _).mono (fun _ h => h 0) (Cert.ReferenceIdeal.Value.run (F := Ideal) m' ρ')⟩
  refine (Cert.HierProof.out_eq m _ _ hm c Cert.ReferenceIdeal.Facts₀.reducesTo_S2x2x4x2048x1024_S2048x1024_d0_1_2).trans ?_
  funext p
  show _ = Ideal.hostReduceAdd _ _ (Ideal.ofBits .f32 0x00000000#32) p
  rw [Ideal.ofBits_zero_f32]
  rfl

theorem claim : Cert.Claim := ⟨Cert.Kernel.Gen.facts, Cert.KernelIdeal.Gen.facts, Cert.ReferenceIdeal.Gen.facts,
  frame_kernel, frame_ideal, frame_reference, trivial, value⟩

end Cert.Proof

end
